-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S3x4x1024x256 : Shape := ⟨4, ![3, 4, 1024, 256]⟩
abbrev S8x128 : Shape := ⟨2, ![8, 128]⟩
abbrev S4x8x128 : Shape := ⟨3, ![4, 8, 128]⟩
abbrev S3x4 : Shape := ⟨2, ![3, 4]⟩
abbrev S3 : Shape := ⟨1, ![3]⟩
abbrev S4 : Shape := ⟨1, ![4]⟩
abbrev S_ : Shape := ⟨0, ![]⟩
abbrev S1024x1024 : Shape := ⟨2, ![1024, 1024]⟩
abbrev S1024x256 : Shape := ⟨2, ![1024, 256]⟩
abbrev S1x1x1024x256 : Shape := ⟨4, ![1, 1, 1024, 256]⟩
abbrev S1x1 : Shape := ⟨2, ![1, 1]⟩
abbrev S1x1024x256 : Shape := ⟨3, ![1, 1024, 256]⟩
abbrev S1 : Shape := ⟨1, ![1]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1024x2048, .bf16⟩
  | .local _ .vmem, ⟨0, _⟩ => ⟨S4096x1024, .bf16⟩
  | .local _ .vmem, ⟨1, _⟩ => ⟨S1024x2048, .bf16⟩
  | .local _ .vmem, ⟨2, _⟩ => ⟨S1024x2048, .bf16⟩
  | .local _ .vmem, ⟨3, _⟩ => ⟨S4096x1024, .bf16⟩
  | .local _ .vmem, ⟨4, _⟩ => ⟨S1024x2048, .bf16⟩
  | .local _ .vmem, ⟨5, _⟩ => ⟨S3x4x1024x256, .bf16⟩
  | .local _ .vmem, ⟨6, _⟩ => ⟨S3x4x1024x256, .bf16⟩
  | .local _ .vmem, ⟨7, _⟩ => ⟨S8x128, .f32⟩
  | .local _ .vmem, ⟨8, _⟩ => ⟨S4x8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21 : BitVec 32 := 1#32
  let v36 : BitVec 32 := Scalar.muli v13 c1_i32_21
  let v37 : BitVec 32 := Scalar.addi c0_i32_22 v36
  v37.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24 : BitVec 32 := 1#32
  let v38 : BitVec 32 := Scalar.muli v24 c1_i32_24
  let v39 : BitVec 32 := Scalar.addi c0_i32_25 v38
  v39.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v40 : BitVec 32 := Scalar.subi v2 c1_i32_26
  let c4_i32_27 : BitVec 32 := 4#32
  let c0_i32_28 : BitVec 32 := 0#32
  let v41 : BitVec 1 := Scalar.cmpi .eq c4_i32_27 c0_i32_28
  let c1_i32_29 : BitVec 32 := 1#32
  let v42 : BitVec 32 := Scalar.select v41 c1_i32_29 c4_i32_27
  let v43 : BitVec 32 := Scalar.remsi v40 v42
  let c0_i32_31 : BitVec 32 := 0#32
  let v45 : BitVec 1 := Scalar.cmpi .slt v43 c0_i32_31
  let c0_i32_32 : BitVec 32 := 0#32
  let v46 : BitVec 1 := Scalar.cmpi .slt v42 c0_i32_32
  let v47 : BitVec 1 := Scalar.xori v45 v46
  let c0_i32_30 : BitVec 32 := 0#32
  let v44 : BitVec 1 := Scalar.cmpi .ne v43 c0_i32_30
  let v48 : BitVec 1 := Scalar.andi v47 v44
  let v49 : BitVec 32 := Scalar.addi v43 v42
  let v50 : BitVec 32 := Scalar.select v48 v49 v43
  let c1024_i32 : BitVec 32 := 1024#32
  let v51 : BitVec 32 := Scalar.muli v50 c1024_i32
  let v52 : Index := Scalar.indexCast v51
  let c0_33 : Index := 0#32
  ![v52.toNat, 0]
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v60 : BitVec 32 := Scalar.muli v24 c1_i32_48
  let v61 : BitVec 32 := Scalar.addi c0_i32_49 v60
  v61.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v70 : BitVec 32 := Scalar.addi v2 c1_i32_54
  let c4_i32_55 : BitVec 32 := 4#32
  let c0_i32_56 : BitVec 32 := 0#32
  let v71 : BitVec 1 := Scalar.cmpi .eq c4_i32_55 c0_i32_56
  let c1_i32_57 : BitVec 32 := 1#32
  let v72 : BitVec 32 := Scalar.select v71 c1_i32_57 c4_i32_55
  let v73 : BitVec 32 := Scalar.remsi v70 v72
  let c0_i32_59 : BitVec 32 := 0#32
  let v75 : BitVec 1 := Scalar.cmpi .slt v73 c0_i32_59
  let c0_i32_60 : BitVec 32 := 0#32
  let v76 : BitVec 1 := Scalar.cmpi .slt v72 c0_i32_60
  let v77 : BitVec 1 := Scalar.xori v75 v76
  let c0_i32_58 : BitVec 32 := 0#32
  let v74 : BitVec 1 := Scalar.cmpi .ne v73 c0_i32_58
  let v78 : BitVec 1 := Scalar.andi v77 v74
  let v79 : BitVec 32 := Scalar.addi v73 v72
  let v80 : BitVec 32 := Scalar.select v78 v79 v73
  let c1024_i32_61 : BitVec 32 := 1024#32
  let v81 : BitVec 32 := Scalar.muli v80 c1024_i32_61
  let v82 : Index := Scalar.indexCast v81
  let c0_62 : Index := 0#32
  ![v82.toNat, 0]
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_77 : BitVec 32 := 1#32
  let v90 : BitVec 32 := Scalar.muli v13 c1_i32_77
  let v91 : BitVec 32 := Scalar.addi c0_i32_78 v90
  v91.toNat
def k0_dev5 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_105 : BitVec 32 := 1#32
  let v120 : BitVec 32 := Scalar.muli v24 c1_i32_105
  let v121 : BitVec 32 := Scalar.addi c0_i32_106 v120
  v121.toNat
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_134 : BitVec 32 := 1#32
  let v150 : BitVec 32 := Scalar.muli v13 c1_i32_134
  let v151 : BitVec 32 := Scalar.addi c0_i32_135 v150
  v151.toNat
def k0_dev7 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_162 : BitVec 32 := 1#32
  let v180 : BitVec 32 := Scalar.muli v24 c1_i32_162
  let v181 : BitVec 32 := Scalar.addi c0_i32_163 v180
  v181.toNat
def k0_dev8 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_191 : BitVec 32 := 1#32
  let v210 : BitVec 32 := Scalar.muli v13 c1_i32_191
  let v211 : BitVec 32 := Scalar.addi c0_i32_192 v210
  v211.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_218 : BitVec 32 := 1#32
  let v240 : BitVec 32 := Scalar.muli v24 c1_i32_218
  let v241 : BitVec 32 := Scalar.addi c0_i32_219 v240
  v241.toNat
def k0_dev10 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_247 : BitVec 32 := 1#32
  let v270 : BitVec 32 := Scalar.muli v13 c1_i32_247
  let v271 : BitVec 32 := Scalar.addi c0_i32_248 v270
  v271.toNat
def k0_off3 (d0 : Dev nD) (c1_i32_254 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_253 : BitVec 32 := 1#32
  let v280 : BitVec 32 := Scalar.subi v2 c1_i32_253
  let v281 : BitVec 32 := Scalar.subi v280 c1_i32_254
  let c4_i32_255 : BitVec 32 := 4#32
  let c0_i32_256 : BitVec 32 := 0#32
  let v282 : BitVec 1 := Scalar.cmpi .eq c4_i32_255 c0_i32_256
  let c1_i32_257 : BitVec 32 := 1#32
  let v283 : BitVec 32 := Scalar.select v282 c1_i32_257 c4_i32_255
  let v284 : BitVec 32 := Scalar.remsi v281 v283
  let c0_i32_259 : BitVec 32 := 0#32
  let v286 : BitVec 1 := Scalar.cmpi .slt v284 c0_i32_259
  let c0_i32_260 : BitVec 32 := 0#32
  let v287 : BitVec 1 := Scalar.cmpi .slt v283 c0_i32_260
  let v288 : BitVec 1 := Scalar.xori v286 v287
  let c0_i32_258 : BitVec 32 := 0#32
  let v285 : BitVec 1 := Scalar.cmpi .ne v284 c0_i32_258
  let v289 : BitVec 1 := Scalar.andi v288 v285
  let v290 : BitVec 32 := Scalar.addi v284 v283
  let v291 : BitVec 32 := Scalar.select v289 v290 v284
  let c1024_i32_261 : BitVec 32 := 1024#32
  let v292 : BitVec 32 := Scalar.muli v291 c1024_i32_261
  let v293 : Index := Scalar.indexCast v292
  let c0_262 : Index := 0#32
  ![v293.toNat, 0]
def k0_off4 (d0 : Dev nD) (c1_i32_306 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_305 : BitVec 32 := 1#32
  let v348 : BitVec 32 := Scalar.addi v2 c1_i32_305
  let v349 : BitVec 32 := Scalar.addi v348 c1_i32_306
  let c4_i32_307 : BitVec 32 := 4#32
  let c0_i32_308 : BitVec 32 := 0#32
  let v350 : BitVec 1 := Scalar.cmpi .eq c4_i32_307 c0_i32_308
  let c1_i32_309 : BitVec 32 := 1#32
  let v351 : BitVec 32 := Scalar.select v350 c1_i32_309 c4_i32_307
  let v352 : BitVec 32 := Scalar.remsi v349 v351
  let c0_i32_311 : BitVec 32 := 0#32
  let v354 : BitVec 1 := Scalar.cmpi .slt v352 c0_i32_311
  let c0_i32_312 : BitVec 32 := 0#32
  let v355 : BitVec 1 := Scalar.cmpi .slt v351 c0_i32_312
  let v356 : BitVec 1 := Scalar.xori v354 v355
  let c0_i32_310 : BitVec 32 := 0#32
  let v353 : BitVec 1 := Scalar.cmpi .ne v352 c0_i32_310
  let v357 : BitVec 1 := Scalar.andi v356 v353
  let v358 : BitVec 32 := Scalar.addi v352 v351
  let v359 : BitVec 32 := Scalar.select v357 v358 v352
  let c1024_i32_313 : BitVec 32 := 1024#32
  let v360 : BitVec 32 := Scalar.muli v359 c1024_i32_313
  let v361 : Index := Scalar.indexCast v360
  let c0_314 : Index := 0#32
  ![v361.toNat, 0]
def k0_dev11 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_427 : BitVec 32 := 1#32
  let v452 : BitVec 32 := Scalar.muli v24 c1_i32_427
  let v453 : BitVec 32 := Scalar.addi c0_i32_428 v452
  v453.toNat
def k0_dev12 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_449 : BitVec 32 := 1#32
  let v470 : BitVec 32 := Scalar.muli v13 c1_i32_449
  let v471 : BitVec 32 := Scalar.addi c0_i32_450 v470
  v471.toNat
def k0_dev13 (d0 : Dev nD) : Nat :=
  let c0_i32_526 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_525 : BitVec 32 := 1#32
  let v516 : BitVec 32 := Scalar.muli v24 c1_i32_525
  let v517 : BitVec 32 := Scalar.addi c0_i32_526 v516
  v517.toNat
def k0_dev14 (d0 : Dev nD) : Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_547 : BitVec 32 := 1#32
  let v534 : BitVec 32 := Scalar.muli v13 c1_i32_547
  let v535 : BitVec 32 := Scalar.addi c0_i32_548 v534
  v535.toNat
def k0_dev15 (d0 : Dev nD) : Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_623 : BitVec 32 := 1#32
  let v580 : BitVec 32 := Scalar.muli v24 c1_i32_623
  let v581 : BitVec 32 := Scalar.addi c0_i32_624 v580
  v581.toNat
def k0_dev16 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_645 : BitVec 32 := 1#32
  let v598 : BitVec 32 := Scalar.muli v13 c1_i32_645
  let v599 : BitVec 32 := Scalar.addi c0_i32_646 v598
  v599.toNat
def k0_dev17 (d0 : Dev nD) : Nat :=
  let c0_i32_722 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_721 : BitVec 32 := 1#32
  let v644 : BitVec 32 := Scalar.muli v24 c1_i32_721
  let v645 : BitVec 32 := Scalar.addi c0_i32_722 v644
  v645.toNat
def k0_dev18 (d0 : Dev nD) : Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_743 : BitVec 32 := 1#32
  let v662 : BitVec 32 := Scalar.muli v13 c1_i32_743
  let v663 : BitVec 32 := Scalar.addi c0_i32_744 v662
  v663.toNat
def k0_dev19 (d0 : Dev nD) : Nat :=
  let c0_i32_898 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_897 : BitVec 32 := 1#32
  let v832 : BitVec 32 := Scalar.muli v24 c1_i32_897
  let v833 : BitVec 32 := Scalar.addi c0_i32_898 v832
  v833.toNat
def k0_dev20 (d0 : Dev nD) : Nat :=
  let c0_i32_920 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_919 : BitVec 32 := 1#32
  let v850 : BitVec 32 := Scalar.muli v13 c1_i32_919
  let v851 : BitVec 32 := Scalar.addi c0_i32_920 v850
  v851.toNat
def k0_dev21 (d0 : Dev nD) : Nat :=
  let c0_i32_970 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_969 : BitVec 32 := 1#32
  let v884 : BitVec 32 := Scalar.muli v24 c1_i32_969
  let v885 : BitVec 32 := Scalar.addi c0_i32_970 v884
  v885.toNat
def k0_dev22 (d0 : Dev nD) : Nat :=
  let c0_i32_992 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_991 : BitVec 32 := 1#32
  let v902 : BitVec 32 := Scalar.muli v13 c1_i32_991
  let v903 : BitVec 32 := Scalar.addi c0_i32_992 v902
  v903.toNat
def k0_dev23 (d0 : Dev nD) : Nat :=
  let c0_i32_1042 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1041 : BitVec 32 := 1#32
  let v936 : BitVec 32 := Scalar.muli v24 c1_i32_1041
  let v937 : BitVec 32 := Scalar.addi c0_i32_1042 v936
  v937.toNat
def k0_dev24 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1063 : BitVec 32 := 1#32
  let v954 : BitVec 32 := Scalar.muli v13 c1_i32_1063
  let v955 : BitVec 32 := Scalar.addi c0_i32_1064 v954
  v955.toNat
def k0_dev25 (d0 : Dev nD) : Nat :=
  let c0_i32_1114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1113 : BitVec 32 := 1#32
  let v988 : BitVec 32 := Scalar.muli v24 c1_i32_1113
  let v989 : BitVec 32 := Scalar.addi c0_i32_1114 v988
  v989.toNat
def k0_dev26 (d0 : Dev nD) : Nat :=
  let c0_i32_1136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1135 : BitVec 32 := 1#32
  let v1006 : BitVec 32 := Scalar.muli v13 c1_i32_1135
  let v1007 : BitVec 32 := Scalar.addi c0_i32_1136 v1006
  v1007.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1141 : BitVec 32 := 1024#32
  let v1016 : BitVec 32 := Scalar.muli v2 c1024_i32_1141
  let v1017 : Index := Scalar.indexCast v1016
  let c0_1142 : Index := 0#32
  ![v1017.toNat, 0]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1206 : Index := Scalar.indexCast v2
  let c0_1338 : Index := 0#32
  let c0_1339 : Index := 0#32
  ![v1206.toNat, 0, 0]
def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1350 : BitVec 32 := 0#32
  let c0_i32_1351 : BitVec 32 := 0#32
  ![v2.toNat, 0, 0]
def k0_dev27 (d0 : Dev nD) : Nat :=
  let c0_i32_1349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1340 : BitVec 32 := 1#32
  let v1210 : BitVec 32 := Scalar.addi v2 c1_i32_1340
  let c4_i32_1341 : BitVec 32 := 4#32
  let c0_i32_1342 : BitVec 32 := 0#32
  let v1211 : BitVec 1 := Scalar.cmpi .eq c4_i32_1341 c0_i32_1342
  let c1_i32_1343 : BitVec 32 := 1#32
  let v1212 : BitVec 32 := Scalar.select v1211 c1_i32_1343 c4_i32_1341
  let v1213 : BitVec 32 := Scalar.remsi v1210 v1212
  let c0_i32_1345 : BitVec 32 := 0#32
  let v1215 : BitVec 1 := Scalar.cmpi .slt v1213 c0_i32_1345
  let c0_i32_1346 : BitVec 32 := 0#32
  let v1216 : BitVec 1 := Scalar.cmpi .slt v1212 c0_i32_1346
  let v1217 : BitVec 1 := Scalar.xori v1215 v1216
  let c0_i32_1344 : BitVec 32 := 0#32
  let v1214 : BitVec 1 := Scalar.cmpi .ne v1213 c0_i32_1344
  let v1218 : BitVec 1 := Scalar.andi v1217 v1214
  let v1219 : BitVec 32 := Scalar.addi v1213 v1212
  let v1220 : BitVec 32 := Scalar.select v1218 v1219 v1213
  let c1_i32_1348 : BitVec 32 := 1#32
  let v1221 : BitVec 32 := Scalar.muli v1220 c1_i32_1348
  let v1222 : BitVec 32 := Scalar.addi c0_i32_1349 v1221
  v1222.toNat
def k0_dev28 (d0 : Dev nD) : Nat :=
  let c0_i32_1361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1352 : BitVec 32 := 2#32
  let v1229 : BitVec 32 := Scalar.addi v2 c2_i32_1352
  let c4_i32_1353 : BitVec 32 := 4#32
  let c0_i32_1354 : BitVec 32 := 0#32
  let v1230 : BitVec 1 := Scalar.cmpi .eq c4_i32_1353 c0_i32_1354
  let c1_i32_1355 : BitVec 32 := 1#32
  let v1231 : BitVec 32 := Scalar.select v1230 c1_i32_1355 c4_i32_1353
  let v1232 : BitVec 32 := Scalar.remsi v1229 v1231
  let c0_i32_1357 : BitVec 32 := 0#32
  let v1234 : BitVec 1 := Scalar.cmpi .slt v1232 c0_i32_1357
  let c0_i32_1358 : BitVec 32 := 0#32
  let v1235 : BitVec 1 := Scalar.cmpi .slt v1231 c0_i32_1358
  let v1236 : BitVec 1 := Scalar.xori v1234 v1235
  let c0_i32_1356 : BitVec 32 := 0#32
  let v1233 : BitVec 1 := Scalar.cmpi .ne v1232 c0_i32_1356
  let v1237 : BitVec 1 := Scalar.andi v1236 v1233
  let v1238 : BitVec 32 := Scalar.addi v1232 v1231
  let v1239 : BitVec 32 := Scalar.select v1237 v1238 v1232
  let c1_i32_1360 : BitVec 32 := 1#32
  let v1240 : BitVec 32 := Scalar.muli v1239 c1_i32_1360
  let v1241 : BitVec 32 := Scalar.addi c0_i32_1361 v1240
  v1241.toNat
def k0_dev29 (d0 : Dev nD) : Nat :=
  let c0_i32_1373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1364 : BitVec 32 := 3#32
  let v1248 : BitVec 32 := Scalar.addi v2 c3_i32_1364
  let c4_i32_1365 : BitVec 32 := 4#32
  let c0_i32_1366 : BitVec 32 := 0#32
  let v1249 : BitVec 1 := Scalar.cmpi .eq c4_i32_1365 c0_i32_1366
  let c1_i32_1367 : BitVec 32 := 1#32
  let v1250 : BitVec 32 := Scalar.select v1249 c1_i32_1367 c4_i32_1365
  let v1251 : BitVec 32 := Scalar.remsi v1248 v1250
  let c0_i32_1369 : BitVec 32 := 0#32
  let v1253 : BitVec 1 := Scalar.cmpi .slt v1251 c0_i32_1369
  let c0_i32_1370 : BitVec 32 := 0#32
  let v1254 : BitVec 1 := Scalar.cmpi .slt v1250 c0_i32_1370
  let v1255 : BitVec 1 := Scalar.xori v1253 v1254
  let c0_i32_1368 : BitVec 32 := 0#32
  let v1252 : BitVec 1 := Scalar.cmpi .ne v1251 c0_i32_1368
  let v1256 : BitVec 1 := Scalar.andi v1255 v1252
  let v1257 : BitVec 32 := Scalar.addi v1251 v1250
  let v1258 : BitVec 32 := Scalar.select v1256 v1257 v1251
  let c1_i32_1372 : BitVec 32 := 1#32
  let v1259 : BitVec 32 := Scalar.muli v1258 c1_i32_1372
  let v1260 : BitVec 32 := Scalar.addi c0_i32_1373 v1259
  v1260.toNat
def k0_off9 (d0 : Dev nD) (c1_i32_1376 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1267 : BitVec 32 := Scalar.addi v2 c1_i32_1376
  let c4_i32_1377 : BitVec 32 := 4#32
  let c0_i32_1378 : BitVec 32 := 0#32
  let v1268 : BitVec 1 := Scalar.cmpi .eq c4_i32_1377 c0_i32_1378
  let c1_i32_1379 : BitVec 32 := 1#32
  let v1269 : BitVec 32 := Scalar.select v1268 c1_i32_1379 c4_i32_1377
  let v1270 : BitVec 32 := Scalar.remsi v1267 v1269
  let c0_i32_1381 : BitVec 32 := 0#32
  let v1272 : BitVec 1 := Scalar.cmpi .slt v1270 c0_i32_1381
  let c0_i32_1382 : BitVec 32 := 0#32
  let v1273 : BitVec 1 := Scalar.cmpi .slt v1269 c0_i32_1382
  let v1274 : BitVec 1 := Scalar.xori v1272 v1273
  let c0_i32_1380 : BitVec 32 := 0#32
  let v1271 : BitVec 1 := Scalar.cmpi .ne v1270 c0_i32_1380
  let v1275 : BitVec 1 := Scalar.andi v1274 v1271
  let v1276 : BitVec 32 := Scalar.addi v1270 v1269
  let v1277 : BitVec 32 := Scalar.select v1275 v1276 v1270
  ![v1277.toNat]
def k0_off10 (d0 : Dev nD) (c1_i32_1376 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1267 : BitVec 32 := Scalar.addi v2 c1_i32_1376
  let c4_i32_1377 : BitVec 32 := 4#32
  let c0_i32_1378 : BitVec 32 := 0#32
  let v1268 : BitVec 1 := Scalar.cmpi .eq c4_i32_1377 c0_i32_1378
  let c1_i32_1379 : BitVec 32 := 1#32
  let v1269 : BitVec 32 := Scalar.select v1268 c1_i32_1379 c4_i32_1377
  let v1270 : BitVec 32 := Scalar.remsi v1267 v1269
  let c0_i32_1381 : BitVec 32 := 0#32
  let v1272 : BitVec 1 := Scalar.cmpi .slt v1270 c0_i32_1381
  let c0_i32_1382 : BitVec 32 := 0#32
  let v1273 : BitVec 1 := Scalar.cmpi .slt v1269 c0_i32_1382
  let v1274 : BitVec 1 := Scalar.xori v1272 v1273
  let c0_i32_1380 : BitVec 32 := 0#32
  let v1271 : BitVec 1 := Scalar.cmpi .ne v1270 c0_i32_1380
  let v1275 : BitVec 1 := Scalar.andi v1274 v1271
  let v1276 : BitVec 32 := Scalar.addi v1270 v1269
  let v1277 : BitVec 32 := Scalar.select v1275 v1276 v1270
  let c0_i32_1386 : BitVec 32 := 0#32
  let c0_i32_1387 : BitVec 32 := 0#32
  ![v1277.toNat, 0, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.Plan.lean ====
/-
# The plan of the kernel's messages: cells, contents, the schedule of payments, levels and debts

Direction `true` goes right (device `c` to `c + 1`), direction `false` left. Hop `s` of direction `d`, column
block `j`, leaves slot `s` of the sender's buffer and lands in slot `s + 1 (mod 3)` of the receiver's. Each such
hop has a send cell on the sender and a receive cell on the receiver; the three exchanges of the local maxima have
a send cell each and a receive cell per source device; and every device has its barrier cell.

What every payment hands over:
* a neighbour's barrier signal: slots 1 and 2 of the direction that neighbour receives from us, and its
  landing slot for our maximum; the right neighbour's signal also its landing slot for the maximum of the device opposite
  it, our left neighbour, to be passed on;
* hop 0: the landed slot holding the sender's partial sum; for direction left and block 0 also the landing slot of the
  opposite device for our maximum, passed on by the right neighbour;
* hop 1: the landed slot, and the sender's slot 0 of the opposite direction, whose own hop-0 copy has been read;
* hop 2: the landed slot;
* a maximum: the landed slot holding it; a send cell: the source back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and this protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The ring -/

set_option backward.proofsInPublic true in
def rot (k : ℕ) (c : Dev nD) : Dev nD := ⟨(c.val + k) % 4, Nat.mod_lt _ (by decide)⟩
/-- The neighbour in direction `d`. -/
def fwd (d : Bool) (c : Dev nD) : Dev nD := rot (if d then 1 else 3) c
/-- The neighbour direction `d` comes from. -/
abbrev bwd (d : Bool) (c : Dev nD) : Dev nD := fwd (!d) c

theorem bwd_fwd (d : Bool) (c : Dev nD) : bwd d (fwd d c) = c := by revert d c; decide
theorem fwd_bwd (d : Bool) (c : Dev nD) : fwd d (bwd d c) = c := by revert d c; decide
theorem fwd_nfwd (d : Bool) (c : Dev nD) : fwd (!d) (fwd d c) = c := bwd_fwd d c

def ring (d : Bool) : Dev nD ≃ Dev nD := ⟨fwd d, bwd d, bwd_fwd d, fwd_bwd d⟩

/-! ## The memrefs -/

abbrev xS : Memref sig .tc .vmem S4096x1024 .bf16 := Memref.whole cc0_stg0_0
abbrev wS : Memref sig .tc .vmem S1024x2048 .bf16 := Memref.whole cc0_stg1_0
abbrev oS : Memref sig .tc .vmem S1024x2048 .bf16 := Memref.whole cc0_stg2_0
abbrev xM : Memref sig .tc .vmem S4096x1024 .bf16 := Memref.whole cc0_scratch0
abbrev wM : Memref sig .tc .vmem S1024x2048 .bf16 := Memref.whole cc0_scratch1
abbrev aS : Memref sig .tc .vmem S8x128 .f32 := Memref.whole cc0_scratch4
abbrev aR : Memref sig .tc .vmem S4x8x128 .f32 := Memref.whole cc0_scratch5

/-- The communication buffer of direction `d`. -/
abbrev comM : Bool → Memref sig .tc .vmem S3x4x1024x256 .bf16
  | true => Memref.whole cc0_scratch2
  | false => Memref.whole cc0_scratch3

theorem slot_inb (s : Fin 3) (j : Fin 4) : ∀ a, (![s.val, j.val, 0, 0] : Fin 4 → ℕ) a + S1x1x1024x256.size a ≤ S3x4x1024x256.size a := by
  revert s j; decide +kernel
abbrev slotR (s : Fin 3) (j : Fin 4) : Rect S3x4x1024x256 := Rect.unit (s := S3x4x1024x256) ![s.val, j.val, 0, 0] S1x1x1024x256.size (slot_inb s j)
/-- Slot `s`, block `j`, of direction `d`'s buffer, as a load or store sees it … -/
abbrev slot4 (d : Bool) (s : Fin 3) (j : Fin 4) : Memref sig .tc .vmem S1x1x1024x256 .bf16 := (comM d).slice (slotR s j) (fun _ => rfl)
/-- … and as a copy sees it. -/
abbrev slotM (d : Bool) (s : Fin 3) (j : Fin 4) : Memref sig .tc .vmem S1024x256 .bf16 := (slot4 d s j).squeeze S1024x256 squeezes_S1x1x1024x256_S1024x256

theorem am_inb (k : Fin 4) : ∀ a, (![k.val, 0, 0] : Fin 3 → ℕ) a + S1x8x128.size a ≤ S4x8x128.size a := by
  revert k; decide +kernel
abbrev amR (k : Fin 4) : Rect S4x8x128 := Rect.unit (s := S4x8x128) ![k.val, 0, 0] S1x8x128.size (am_inb k)
abbrev am3 (k : Fin 4) : Memref sig .tc .vmem S1x8x128 .f32 := aR.slice (amR k) (fun _ => rfl)
abbrev amM (k : Fin 4) : Memref sig .tc .vmem S8x128 .f32 := (am3 k).squeeze S8x128 squeezes_S1x8x128_S8x128

/-! ## The cells -/

/-- A device's cells: the barrier (`inl (inl ())`), the send cell of maximum exchange `k`, the receive cell of the maximum
    of device `k`, and the send (`false`) and receive (`true`) cells of hop `(d, s, j)`. -/
abbrev Cid : Type := (Unit ⊕ Fin 3 ⊕ Fin 4) ⊕ (Bool × Bool × Fin 3 × Fin 4)

instance cid_dec : DecidableEq Cid := inferInstance
instance cid_fintype : Fintype Cid := inferInstance
instance devCid_dec : DecidableEq (Dev nD × Cid) := instDecidableEqProd

abbrev kBar : Cid := .inl (.inl ())
abbrev kAs (k : Fin 3) : Cid := .inl (.inr (.inl k))
abbrev kAr (k : Fin 4) : Cid := .inl (.inr (.inr k))
abbrev kSnd (d : Bool) (s : Fin 3) (j : Fin 4) : Cid := .inr (false, d, s, j)
abbrev kRcv (d : Bool) (s : Fin 3) (j : Fin 4) : Cid := .inr (true, d, s, j)

/-- The runtime's barrier semaphore (not scoped to the launch). -/
abbrev barS : Sem sig := (SemArray.scalar (sig.barrier 0 rfl) : Sems sig S_).sem

/-- The slot hop `s` lands in. -/
def nxt3 (s : Fin 3) : Fin 3 := s + 1

/-- The number of a DMA cell's semaphore. -/
def dmaNo : Cid → ℕ
  | .inl (.inl _) => 0
  | .inl (.inr (.inl k)) => 51 + k
  | .inl (.inr (.inr k)) => 54 + k
  | .inr (false, d, s, j) => 3 + (if d then 0 else 24) + 4 * s + j
  | .inr (true, d, s, j) => 15 + (if d then 0 else 24) + 4 * (nxt3 s : ℕ) + j

theorem dmaNo_lt : ∀ k, dmaNo k < 58 := by decide +kernel

def csem (k : Cid) : SemLoc sig := if k = kBar then .reg barS else .dma (⟨dmaNo k, dmaNo_lt k⟩ : Fin 58)

theorem csem_injective : Function.Injective csem := by decide +kernel

/-- The cell a semaphore is, if any. -/
def codeOf (sm : SemLoc sig) : Option Cid := open Classical in if h : ∃ k, csem k = sm then some h.choose else none

theorem codeOf_csem (k : Cid) : codeOf (csem k) = some k := by
  have h : ∃ k', csem k' = csem k := ⟨k, rfl⟩
  unfold codeOf; rw [dif_pos h]; exact congrArg some (csem_injective h.choose_spec)

theorem codeOf_stage (q : DmaSem sig) (hq : q.val < 3) : codeOf (.dma q) = none := by
  unfold codeOf; rw [dif_neg]
  have h : ∀ k, csem k = .reg barS ∨ ∃ q' : DmaSem sig, csem k = .dma q' ∧ 3 ≤ q'.val := fun k => by
    by_cases hk : k = kBar
    · left; exact if_pos hk
    · right; exact ⟨_, if_neg hk, (by decide +kernel : ∀ k, k ≠ kBar → 3 ≤ dmaNo k) k hk⟩
  rintro ⟨k, hk⟩
  rcases h k with h | ⟨q', h, h3⟩
  · rw [h] at hk; cases hk
  · rw [h] at hk; cases hk; omega

abbrev kcell (ck : Dev nD × Cid) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The contents -/

/-- The blocks of `x` and `w` the pipeline stages on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
/-- The two scratch copies of them. -/
def xbv (c : Dev nD) : (cc0_scratch0 : Ref sig .tc).ty.Contents (Elt F) := k0_pay1 (F := F) (xstg m ρ c)
def wbv (c : Dev nD) : (cc0_scratch1 : Ref sig .tc).ty.Contents (Elt F) := k0_pay3 (F := F) (k0_pay2 (F := F) (wstg m ρ c))

/-- The rows of `x` device `c` multiplies for hop `s` of direction `d`; `s = 3` its own. -/
def ldx (c : Dev nD) : Bool → Fin 4 → Vec F S1024x1024 .bf16
  | true, 0 => xM.view.readAt (Elt F) (Rect.unit (s := S4096x1024) (k0_off1 c) S1024x1024.size (k0_off1_inb c)).toLoadRect (xbv m ρ c)
  | false, 0 => xM.view.readAt (Elt F) (Rect.unit (s := S4096x1024) (k0_off2 c) S1024x1024.size (k0_off2_inb c)).toLoadRect (xbv m ρ c)
  | true, 1 => xM.view.readAt (Elt F) (Rect.unit (s := S4096x1024) (k0_off3 c 1#32) S1024x1024.size (k0_off3_inb c 0)).toLoadRect (xbv m ρ c)
  | false, 1 => xM.view.readAt (Elt F) (Rect.unit (s := S4096x1024) (k0_off4 c 1#32) S1024x1024.size (k0_off4_inb c 0)).toLoadRect (xbv m ρ c)
  | true, 2 => xM.view.readAt (Elt F) (Rect.unit (s := S4096x1024) (k0_off3 c 2#32) S1024x1024.size (k0_off3_inb c 1)).toLoadRect (xbv m ρ c)
  | false, 2 => xM.view.readAt (Elt F) (Rect.unit (s := S4096x1024) (k0_off4 c 2#32) S1024x1024.size (k0_off4_inb c 1)).toLoadRect (xbv m ρ c)
  | _, 3 => xM.view.readAt (Elt F) (Rect.unit (s := S4096x1024) (k0_off5 c) S1024x1024.size (k0_off5_inb c)).toLoadRect (xbv m ρ c)

theorem col_inb (d : Bool) (j : Fin 4) : ∀ a, (![0, (if d then 0 else 1024) + 256 * j.val] : Fin 2 → ℕ) a + S1024x256.size a ≤ S1024x2048.size a := by
  revert d j; decide +kernel
/-- The columns of block `j` of direction `d`. -/
abbrev colR (d : Bool) (j : Fin 4) : Rect S1024x2048 := Rect.unit (s := S1024x2048) ![0, (if d then 0 else 1024) + 256 * j.val] S1024x256.size (col_inb d j)
def ldw (c : Dev nD) (d : Bool) (j : Fin 4) : Vec F S1024x256 .bf16 := wM.view.readAt (Elt F) (colR d j).toLoadRect (wbv m ρ c)

/-- The product of a block of rows with a block of columns. -/
def mm (x : Vec F S1024x1024 .bf16) (w : Vec F S1024x256 .bf16) : FVec F S1024x256 .f32 :=
  matmul dot_S1024x1024_S1024x256_S1024x256_1_0_0_1_n_n none x w (constant S1024x256 .f32 0x00000000#32)
/-- A slot's contents as a matrix of the wide type, and a matrix as a slot's contents. -/
def wide (v : Vec F S1x1x1024x256 .bf16) : FVec F S1024x256 .f32 := extf .f32 (shapeCast S1024x256 v shapeCasts_S1x1x1024x256_S1024x256) bitsLt_bf16_f32
def thin (v : FVec F S1024x256 .f32) : Vec F S1x1x1024x256 .bf16 :=
  shapeCast S1x1x1024x256 (truncf .bf16 v bitsLt_bf16_f32 : FVec F S1024x256 .bf16) shapeCasts_S1024x256_S1x1x1024x256
def pp (c : Dev nD) (d : Bool) (s : Fin 4) (j : Fin 4) : FVec F S1024x256 .f32 := mm (ldx m ρ c d s) (ldw m ρ c d j)

/-- What device `c` sends at hop `0`, `1`, `2`. -/
def V0 (c : Dev nD) (d : Bool) (j : Fin 4) : Vec F S1x1x1024x256 .bf16 := thin (pp m ρ c d 0 j)
def V1 (c : Dev nD) (d : Bool) (j : Fin 4) : Vec F S1x1x1024x256 .bf16 := thin (addf (pp m ρ c d 1 j) (wide (V0 m ρ (bwd d c) d j)))
def V2 (c : Dev nD) (d : Bool) (j : Fin 4) : Vec F S1x1x1024x256 .bf16 := thin (addf (pp m ρ c d 2 j) (wide (V1 m ρ (bwd d c) d j)))
def V (c : Dev nD) (d : Bool) : Fin 3 → Fin 4 → Vec F S1x1x1024x256 .bf16
  | 0 => V0 m ρ c d | 1 => V1 m ρ c d | 2 => V2 m ρ c d
/-- Device `c`'s rows of the product, columns of block `j` of direction `d`. -/
def Y (c : Dev nD) (d : Bool) (j : Fin 4) : FVec F S1024x256 .f32 := addf (pp m ρ c d 3 j) (wide (V2 m ρ (bwd d c) d j))

/-- The largest absolute value of a block. -/
def mxm (v : FVec F S1024x256 .f32) : F .f32 :=
  extractAt ![0, 0, 0] (shapeCast S1x1x1 (multiReduction .maximumf [1, 2] S1
    (shapeCast S1x1024x256 (absf v) shapeCasts_S1024x256_S1x1024x256 : FVec F S1x1024x256 .f32) 0xFF800000#32 reduces_S1x1024x256_S1 (.inl rfl) rfl) shapeCasts_S1_S1x1x1) inpos_S1x1x1_p0_0_0
/-- The largest absolute value on device `c`, over its blocks in the kernel's order. -/
def amx2 (c : Dev nD) (j : Fin 4) (a : F .f32) : F .f32 := Scalar.maximumf (Scalar.maximumf a (mxm (Y m ρ c true j))) (mxm (Y m ρ c false j))
def amx (c : Dev nD) : F .f32 := amx2 m ρ c 3 (amx2 m ρ c 2 (amx2 m ρ c 1 (amx2 m ρ c 0 (Scalar.ofBits .f32 0x00000000#32))))

/-! ## The schedule -/

def sl (c : Dev nD) (d : Bool) (s : Fin 3) (j : Fin 4) (X : Vec F S1x1x1024x256 .bf16) : sProp 𝕄 := ownsTc c (slot4 d s j) fullShare X
def slAny (c : Dev nD) (d : Bool) (s : Fin 3) (j : Fin 4) : sProp 𝕄 := iprop(∃ X, sl (F := F) c d s j X)
def am (c : Dev nD) (k : Fin 4) (X : Vec F S1x8x128 .f32) : sProp 𝕄 := ownsTc c (am3 k) fullShare X
def amAny (c : Dev nD) (k : Fin 4) : sProp 𝕄 := iprop(∃ X, am (F := F) c k X)
/-- The three shares of the outgoing maximum, one per copy reading it. -/
def shr : Fin 3 → PosShare TreeShare
  | 0 => fullShare.left | 1 => fullShare.right.left | 2 => fullShare.right.right
def amOut (c : Dev nD) (q : PosShare TreeShare) (X : Vec F S8x128 .f32) : sProp 𝕄 := ownsTc c aS q X

/-- The slot hop `(s, j)` of direction `d` from `c` lands in. -/
def tgt (c : Dev nD) (d : Bool) (s : Fin 3) (j : Fin 4) : sProp 𝕄 := slAny (F := F) (fwd d c) d (nxt3 s) j

def opp (c : Dev nD) : Dev nD := rot 2 c

/-- What is passed along with hop `(s, j)` of direction `d` into device `c`. -/
def along (c : Dev nD) (d : Bool) (s : Fin 3) (j : Fin 4) : sProp 𝕄 :=
  if s = 1 then tgt (F := F) c (!d) 2 j else if d = false ∧ s = 0 ∧ j = 0 then amAny (F := F) (opp c) c else iprop(emp)

/-- What a payment into device `c`'s cell hands over. -/
def payC (c : Dev nD) : Cid → Bool → sProp 𝕄
  | .inl (.inl _), d => iprop((bigSep Finset.univ fun j : Fin 4 => iprop(tgt (F := F) c d 0 j ∗ tgt (F := F) c d 1 j))
      ∗ amAny (F := F) (fwd d c) c ∗ (if d then amAny (F := F) (fwd d c) (bwd d c) else iprop(emp)))
  | .inl (.inr (.inl k)), _ => amOut c (shr k) (fun _ => amx m ρ c)
  | .inl (.inr (.inr k)), _ => am c k (fun _ => amx m ρ k)
  | .inr (false, d, s, j), _ => slAny (F := F) c d s j
  | .inr (true, d, s, j), _ => iprop(sl c d (nxt3 s) j (V m ρ (bwd d c) d s j) ∗ along (F := F) c d s j)

instance tgt_storable (c : Dev nD) (d : Bool) (s : Fin 3) (j : Fin 4) : BI.Storable (upEmb : UEmb _ 𝕄) (tgt (F := F) c d s j) := by
  unfold tgt slAny sl; infer_instance
instance amAny_storable (c : Dev nD) (k : Fin 4) : BI.Storable (upEmb : UEmb _ 𝕄) (amAny (F := F) c k) := by
  unfold amAny am; infer_instance
instance along_storable (c : Dev nD) (d : Bool) (s : Fin 3) (j : Fin 4) : BI.Storable (upEmb : UEmb _ 𝕄) (along (F := F) c d s j) := by
  unfold along; (repeat' split) <;> infer_instance

instance sl_storable (c : Dev nD) (d : Bool) (s : Fin 3) (j : Fin 4) (X) : BI.Storable (upEmb : UEmb _ 𝕄) (sl (F := F) c d s j X) := by
  unfold sl; infer_instance
instance slAny_storable (c : Dev nD) (d : Bool) (s : Fin 3) (j : Fin 4) : BI.Storable (upEmb : UEmb _ 𝕄) (slAny (F := F) c d s j) := by
  unfold slAny; infer_instance
instance am_storable (c : Dev nD) (k : Fin 4) (X) : BI.Storable (upEmb : UEmb _ 𝕄) (am (F := F) c k X) := by
  unfold am; infer_instance
instance amOut_storable (c : Dev nD) (q) (X) : BI.Storable (upEmb : UEmb _ 𝕄) (amOut (F := F) c q X) := by
  unfold amOut; infer_instance
instance iteAm_storable (p : Prop) [Decidable p] (c : Dev nD) (k : Fin 4) :
    BI.Storable (upEmb : UEmb _ 𝕄) (if p then amAny (F := F) c k else iprop(emp)) := by
  split <;> infer_instance

instance payC_storable (c : Dev nD) (k : Cid) (d : Bool) : BI.Storable (upEmb : UEmb _ 𝕄) (payC m ρ c k d) := by
  rcases k with (_ | k | k) | ⟨_ | _, d', s, j⟩ <;> dsimp only [payC] <;> infer_instance

/-- The credit of one slot, and of one maximum. -/
abbrev N : ℕ := (slotM true 0 0).view.dmaCredit
abbrev N' : ℕ := (amM 0).view.dmaCredit
theorem N_pos : 0 < N := View.dmaCredit_pos _ (by decide)
theorem N'_pos : 0 < N' := View.dmaCredit_pos _ (by decide)

def amtC : Cid → ℕ
  | .inl (.inl _) => 1
  | .inl (.inr _) => N'
  | .inr _ => N
theorem amtC_pos (k : Cid) : 0 < amtC k := by
  rcases k with (_ | k) | k
  · exact Nat.one_pos
  · exact N'_pos
  · exact N_pos

def dutC (c : Dev nD) : Cid → Finset Bool
  | .inl (.inl _) => Finset.univ
  | .inl (.inr (.inr k)) => if k = c then ∅ else {false}
  | _ => {false}

/-- One round: the barrier's two duties of one unit, every copy's duty of its credit; no one pays a device's own maximum's cell. -/
def Rd : Rounds.Schedule (GSem nD τ sig) Bool 𝕄 where
  duties g r := if r = 0 ∧ g.1.2 = .tc then ((codeOf g.2).map (dutC g.1.1)).getD ∅ else ∅
  unitless _ := False
  amount g _ _ := ((codeOf g.2).map amtC).getD 1
  payload g _ d := ((codeOf g.2).map (fun k => payC m ρ g.1.1 k d)).getD iprop(emp)
  amount_pos g _ _ _ := by cases codeOf g.2 with | none => exact Nat.one_pos | some k => exact amtC_pos k

instance Rd_payload_storable (g : GSem nD τ sig) (r : ℕ) (d : Bool) : BI.Storable (upEmb : UEmb _ 𝕄) ((Rd (F := F) m ρ).payload g r d) := by
  dsimp only [Rd]; cases codeOf g.2 with
  | none => show BI.Storable upEmb iprop(emp); infer_instance
  | some k => exact payC_storable m ρ g.1.1 k d

theorem duties_at (ck : Dev nD × Cid) : (Rd (F := F) m ρ).duties (kcell ck) 0 = dutC ck.1 ck.2 := by
  dsimp only [Rd]; rw [if_pos ⟨rfl, rfl⟩, codeOf_csem]; rfl
theorem duties_later (g : GSem nD τ sig) : ∀ r, 1 ≤ r → (Rd (F := F) m ρ).duties g r = ∅ :=
  fun r hr => by dsimp only [Rd]; rw [if_neg fun h => by omega]
theorem amount_at (ck : Dev nD × Cid) (d : Bool) : (Rd (F := F) m ρ).amount (kcell ck) 0 d = amtC ck.2 := by
  dsimp only [Rd]; rw [codeOf_csem]; rfl
theorem payload_at (ck : Dev nD × Cid) (d : Bool) : (Rd (F := F) m ρ).payload (kcell ck) 0 d = payC m ρ ck.1 ck.2 d := by
  dsimp only [Rd]; rw [codeOf_csem]; rfl

theorem expect_at (ck : Dev nD × Cid) : (Rd (F := F) m ρ).expect (kcell ck) 0 = (dutC ck.1 ck.2).card * amtC ck.2 := by
  unfold Schedule.expect Schedule.amountOf
  rw [duties_at, Finset.sum_congr rfl fun d _ => amount_at m ρ ck d, Finset.sum_const, smul_eq_mul]

/-- What comes with the whole of a cell's round. -/
theorem rest_at (ck : Dev nD × Cid) : bigSep ((Rd (F := F) m ρ).duties (kcell ck) 0 \ ∅) (fun d => (Rd (F := F) m ρ).payload (kcell ck) 0 d)
    = bigSep (dutC ck.1 ck.2) (fun d => payC m ρ ck.1 ck.2 d) := by
  rw [Finset.sdiff_empty, duties_at]; exact bigSep_congr fun d _ => payload_at m ρ ck d

/-! ## Levels and debts -/

def lvC : Cid → ℕ
  | .inl (.inl _) => 1
  | .inl (.inr (.inl _)) => 0
  | .inl (.inr (.inr _)) => 5
  | .inr (false, _) => 0
  | .inr (true, _, s, _) => 2 + s.val

def L (g : GSem nD τ sig) : Finset Unit := if g.1.2 = .tc then {()} else ∅
def lv (g : GSem nD τ sig) (_ : Unit) : ℕ := ((codeOf g.2).map lvC).getD 0

theorem L_of_ne (g : GSem nD τ sig) (h : g.1.2 ≠ .tc) : L g = ∅ := if_neg h
theorem L_tc (c : Dev nD) (sm : SemLoc sig) : L ((c : Thread nD τ), sm) = {()} := if_pos rfl
theorem lv_at (ck : Dev nD × Cid) (u : Unit) : lv (kcell ck) u = lvC ck.2 := by unfold lv; rw [codeOf_csem]; rfl

/-- What a device owes, in program order: the cell, as the distance round the ring to its device and its code. The code of the
    cell of the sender's own maximum depends on the sender. -/
inductive Ob where
  | bar (d : Bool)
  | hop (d : Bool) (s : Fin 3) (j : Fin 4)
  | max (k : Fin 3)
deriving DecidableEq

/-- The cell device `c` owes for `o`. -/
def Ob.cell (c : Dev nD) : Ob → Dev nD × Cid
  | .bar d => (fwd d c, kBar)
  | .hop d s j => (fwd d c, kRcv d s j)
  | .max k => (rot (k.val + 1) c, kAr c)

def hops (s : Fin 3) : List Ob :=
  [.hop true s 0, .hop false s 0, .hop true s 1, .hop false s 1, .hop true s 2, .hop false s 2, .hop true s 3, .hop false s 3]
/-- Everything a device owes at launch, in the order it pays. -/
def obs : List Ob := [.bar false, .bar true] ++ hops 0 ++ hops 1 ++ hops 2 ++ [.max 0, .max 1, .max 2]

/-- The tally of a list of debts. -/
def oweL (c : Dev nD) : List Ob → CellTallies nD τ sig Unit
  | [] => 0
  | o :: l => oweL c l + tallyAt (kcell (o.cell c)) () (amtC (o.cell c).2)

theorem oweL_pos {c : Dev nD} {g : GSem nD τ sig} {u : Unit} : ∀ {l : List Ob}, 0 < oweL c l g u → ∃ o ∈ l, g = kcell (o.cell c)
  | [], h => absurd h (Nat.lt_irrefl 0)
  | o :: l, h => by
    unfold oweL at h
    rw [Pi.add_apply, Finsupp.add_apply, tallyAt_apply] at h
    by_cases hg : g = kcell (o.cell c) ∧ u = ()
    · exact ⟨o, List.mem_cons_self, hg.1⟩
    · rw [if_neg hg] at h
      obtain ⟨o', ho, hg'⟩ := oweL_pos (l := l) h
      exact ⟨o', List.mem_cons_of_mem _ ho, hg'⟩

/-- The level of a debt's cell. -/
def Ob.lvl : Ob → ℕ
  | .bar _ => 1
  | .hop _ s _ => 2 + s.val
  | .max _ => 5
theorem Ob.lvl_cell (c : Dev nD) (o : Ob) : lvC (o.cell c).2 = o.lvl := by cases o <;> rfl

/-- A device may wait on one of its cells while everything it owes lies higher. -/
theorem mayWait_at (c : Dev nD) (k : Cid) (l : List Ob) (h : ∀ o ∈ l, lvC k < o.lvl) :
    (levAts L lv : sProp 𝕄) ⊢ MayWait (c : Thread nD τ) (csem k) () (oweL c l) :=
  MayOwe.of_cut (L := L) (lev := lv) (lvC k) (fun p hp => by rw [Finset.mem_singleton.mp hp, L_tc]; exact Finset.mem_singleton_self _)
    (fun g u hg => by obtain ⟨o, _, rfl⟩ := oweL_pos hg; exact Finset.mem_singleton_self _)
    (fun p hp => by rw [Finset.mem_singleton.mp hp]; exact le_of_eq (lv_at (c, k) ()))
    (fun g u hg => by obtain ⟨o, ho, rfl⟩ := oweL_pos hg; rw [lv_at, Ob.lvl_cell]; exact h o ho)

/-- A staging wait lies below everything owed. -/
theorem mayWait_stage (c : Dev nD) (q : DmaSem sig) (hq : q.val < 3) (l : List Ob) :
    (levAts L lv : sProp 𝕄) ⊢ MayWait (c : Thread nD τ) (.dma q) () (oweL c l) :=
  MayOwe.of_cut (L := L) (lev := lv) 0 (fun p hp => by rw [Finset.mem_singleton.mp hp, L_tc]; exact Finset.mem_singleton_self _)
    (fun g u hg => by obtain ⟨o, _, rfl⟩ := oweL_pos hg; exact Finset.mem_singleton_self _)
    (fun p hp => by rw [Finset.mem_singleton.mp hp]; unfold lv; rw [codeOf_stage q hq]; exact le_refl _)
    (fun g u hg => by obtain ⟨o, ho, rfl⟩ := oweL_pos hg; rw [lv_at, Ob.lvl_cell]; cases o <;> simp only [Ob.lvl] <;> omega)

end Cert.KernelIdealProof

end
-- ==== Proof.Lane.lean ====
/-
# What a device holds while the hops run: four lanes, one per column block

The same story runs in each of the four column blocks `j`: the kernel's stores, sends and waits on it come in one
order (`evs`). What the device holds of block `j` after `t` of these events is a list of pieces (`laneAt j t`),
each event trading some pieces (`pre`) for others (`post`); the lists follow from the first by the trades.
-/
module

public import proofs.«01_k».proof.Proof.Plan

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunction over a list -/

section SepL
variable {M : Type} [URA M] {α : Type}

def sepL (f : α → sProp M) : List α → sProp M
  | [] => iprop(emp)
  | a :: l => iprop(f a ∗ sepL f l)

theorem sepL_perm (f : α → sProp M) {l l' : List α} (h : l.Perm l') : sepL f l ⊢ sepL f l' := by
  induction h with
  | nil => exact BI.Entails.refl _
  | cons a _ ih => exact sep_mono_right ih
  | swap a b l =>
    unfold sepL sepL
    iintro ⟨H1, H2, H3⟩
    isplitl [H2]; · iexact H2
    isplitl [H1]; · iexact H1
    iexact H3
  | trans _ _ ih ih' => exact ih.trans ih'

theorem sepL_append (f : α → sProp M) : ∀ l l' : List α, sepL f (l ++ l') ⊢ iprop(sepL f l ∗ sepL f l')
  | [], l' => by
    iintro H
    isplitr
    · unfold sepL; iempintro
    · iexact H
  | a :: l, l' => by
    show iprop(f a ∗ sepL f (l ++ l')) ⊢ iprop((f a ∗ sepL f l) ∗ sepL f l')
    iintro ⟨H, H'⟩
    ihave H2 := (sepL_append f l l') $$ H'
    icases H2 with ⟨H2, H3⟩
    isplitl [H H2]
    · isplitl [H] <;> iassumption
    iexact H3

theorem append_sepL (f : α → sProp M) : ∀ l l' : List α, iprop(sepL f l ∗ sepL f l') ⊢ sepL f (l ++ l')
  | [], l' => by
    iintro ⟨-, H⟩
    iexact H
  | a :: l, l' => by
    show iprop((f a ∗ sepL f l) ∗ sepL f l') ⊢ iprop(f a ∗ sepL f (l ++ l'))
    iintro ⟨⟨H, H2⟩, H3⟩
    isplitl [H]; · iexact H
    iapply (append_sepL f l l')
    isplitl [H2] <;> iassumption

end SepL

/-! ## The pieces, the events and their trades -/

/-- The pieces of one block. -/
inductive Pc where
  /-- what sending hop `s` of direction `d` takes of tokens and position -/
  | kit (d : Bool) (s : Fin 3)
  /-- the hop sent, its source not back yet -/
  | fly (d : Bool) (s : Fin 3)
  /-- the hop's source back -/
  | don (d : Bool) (s : Fin 3)
  /-- the hop into this device not waited for yet -/
  | due (d : Bool) (s : Fin 3)
  /-- the hop into this device waited for -/
  | got (d : Bool) (s : Fin 3)
  /-- an own slot, whatever it holds -/
  | any (d : Bool) (s : Fin 3)
  /-- an own slot holding what the hop out of it sends -/
  | own (d : Bool) (s : Fin 3)
  /-- an own slot holding what the hop into it brought -/
  | arr (d : Bool) (s : Fin 3)
  /-- the neighbour's slot hop `s` lands in -/
  | tgt (d : Bool) (s : Fin 3)
  /-- the right neighbour's landing slot for the left neighbour's maximum, to be passed on -/
  | fw
  /-- the opposite device's landing slot for this device's maximum -/
  | bk
deriving DecidableEq

inductive Ev where
  | store (d : Bool) (s : Fin 3)
  | send (d : Bool) (s : Fin 3)
  | recv (d : Bool) (s : Fin 3)
  | back (d : Bool) (s : Fin 3)
  /-- nothing of the program: the opposite device's landing slot leaves the lane -/
  | take
deriving DecidableEq

/-- The order of a block's events. -/
def evs : List Ev :=
  [.store true 0, .send true 0, .store false 0, .send false 0, .recv true 0, .recv false 0, .back true 0, .back false 0,
    .store true 1, .send true 1, .store false 1, .send false 1, .recv true 1, .recv false 1,
    .store true 2, .send true 2, .store false 2, .send false 2, .recv true 2, .recv false 2, .take,
    .back true 1, .back false 1, .back true 2, .back false 2]

/-- What a hop takes along, as the sender holds it, and as the receiver gets it. -/
def rideOut (d : Bool) (s : Fin 3) (j : Fin 4) : List Pc :=
  if s = 1 then [.any (!d) 0] else if d = false ∧ s = 0 ∧ j = 0 then [.fw] else []
def rideIn (d : Bool) (s : Fin 3) (j : Fin 4) : List Pc :=
  if s = 1 then [.tgt (!d) 2] else if d = false ∧ s = 0 ∧ j = 0 then [.bk] else []

def pre (j : Fin 4) : Ev → List Pc
  | .store d s => if s = 0 then [.any d 0] else [.arr d s]
  | .send d s => .kit d s :: .own d s :: .tgt d s :: rideOut d s j
  | .recv d s => [.due d s]
  | .back d s => [.fly d s]
  | .take => if j = 0 then [.bk] else []
def post (j : Fin 4) : Ev → List Pc
  | .store d s => [.own d s]
  | .send d s => [.fly d s]
  | .recv d s => .got d s :: .arr d (nxt3 s) :: rideIn d s j
  | .back d s => [.don d s, .any d s]
  | .take => []

/-- The pieces of block `j` before any event. -/
def lane0 (j : Fin 4) : List Pc :=
  [.kit true 0, .kit true 1, .kit true 2, .kit false 0, .kit false 1, .kit false 2,
    .due true 0, .due true 1, .due true 2, .due false 0, .due false 1, .due false 2,
    .any true 0, .any false 0, .tgt true 0, .tgt true 1, .tgt false 0, .tgt false 1] ++ (if j = 0 then [.fw] else [])

/-- The pieces of block `j` after `t` events. -/
def laneAt (j : Fin 4) : ℕ → List Pc
  | 0 => lane0 j
  | t + 1 => match evs[t]? with
    | some e => post j e ++ (laneAt j t).diff (pre j e)
    | none => laneAt j t

theorem lane_perm : ∀ j : Fin 4, ∀ t : Fin 25, ∀ e, evs[t.val]? = some e → (laneAt j t.val).Perm (pre j e ++ (laneAt j t.val).diff (pre j e)) := by
  have h : ∀ j : Fin 4, ∀ t : Fin 25, (laneAt j t.val).Perm (pre j (evs[t.val]?.getD .take) ++ (laneAt j t.val).diff (pre j (evs[t.val]?.getD .take))) := by
    decide +kernel
  intro j t e he
  have := h j t
  rw [he] at this; exact this

/-- What a device holds at the end of block `j`. -/
def laneN (j : Fin 4) : List Pc :=
  [.don true 0, .don true 1, .don true 2, .don false 0, .don false 1, .don false 2,
    .got true 0, .got true 1, .got true 2, .got false 0, .got false 1, .got false 2,
    .arr true 0, .any true 1, .any true 2, .arr false 0, .any false 1, .any false 2]

theorem lane_end : ∀ j : Fin 4, (laneAt j 25).Perm (laneN j) := by decide +kernel

/-! ## What the pieces are -/

def piece (c : Dev nD) (j : Fin 4) : Pc → sProp 𝕄
  | .kit d s => iprop(atPos ER (kcell (c, kSnd d s j)) 0 ∅ 0 ∗ dutyTok ER (kcell (c, kSnd d s j)) 0 false ∗ dutyTok ER (kcell (fwd d c, kRcv d s j)) 0 false)
  | .fly d s => iprop(atPos ER (kcell (c, kSnd d s j)) 0 ∅ 0 ∗ cred (tallyAt (kcell (c, kSnd d s j)) () N))
  | .don d s => atPos ER (kcell (c, kSnd d s j)) (0 + 1) ∅ 0
  | .due d s => iprop(atPos ER (kcell (c, kRcv d s j)) 0 ∅ 0 ∗ cred (tallyAt (kcell (c, kRcv d s j)) () N))
  | .got d s => atPos ER (kcell (c, kRcv d s j)) (0 + 1) ∅ 0
  | .any d s => slAny c d s j
  | .own d s => sl c d s j (V m ρ c d s j)
  | .arr d s => sl c d s j (V m ρ (bwd d c) d (s + 2) j)
  | .tgt d s => tgt c d s j
  | .fw => amAny (fwd true c) (bwd true c)
  | .bk => amAny (opp c) c

/-- What device `c` holds of block `j` after `t` events. -/
def lane (c : Dev nD) (j : Fin 4) (t : ℕ) : sProp 𝕄 := sepL (piece m ρ c j) (laneAt j t)

/-- An event's trade. -/
theorem lane_trade (c : Dev nD) (j : Fin 4) (t : ℕ) (e : Ev) (he : evs[t]? = some e) :
    lane m ρ c j t ⊢ iprop(sepL (piece m ρ c j) (pre j e) ∗ (sepL (piece m ρ c j) (post j e) -∗ lane m ρ c j (t + 1))) := by
  have ht : t < 25 := by have := (List.getElem?_eq_some_iff.mp he).1; exact this
  have h1 : laneAt j (t + 1) = post j e ++ (laneAt j t).diff (pre j e) := by conv => lhs; unfold laneAt; rw [he]
  unfold lane
  rw [h1]
  refine ((sepL_perm _ (lane_perm j ⟨t, ht⟩ e he)).trans (sepL_append _ _ _)).trans (sep_mono_right ?_)
  iintro H H'
  iapply (append_sepL (piece m ρ c j) _ _)
  isplitl [H'] <;> iassumption

/-- A piece of the lane, looked at and put back. -/
theorem lane_peek (c : Dev nD) (j : Fin 4) (t : ℕ) (p : Pc) (hp : p ∈ laneAt j t) :
    lane m ρ c j t ⊢ iprop(piece m ρ c j p ∗ (piece m ρ c j p -∗ lane m ρ c j t)) := by
  unfold lane
  refine (sepL_perm _ (List.perm_cons_erase hp)).trans ?_
  show iprop(piece m ρ c j p ∗ sepL (piece m ρ c j) ((laneAt j t).erase p)) ⊢ _
  have hb : iprop(piece m ρ c j p ∗ sepL (piece m ρ c j) ((laneAt j t).erase p)) ⊢ sepL (piece m ρ c j) (laneAt j t) :=
    sepL_perm (piece m ρ c j) (List.perm_cons_erase hp).symm
  refine sep_mono_right ?_
  iintro H H'
  iapply hb
  isplitl [H'] <;> iassumption

/-- How far each block is. -/
structure T4 where
  a : ℕ
  b : ℕ
  c : ℕ
  d : ℕ

def T4.at (T : T4) : Fin 4 → ℕ
  | 0 => T.a | 1 => T.b | 2 => T.c | 3 => T.d
def T4.bump (T : T4) : Fin 4 → T4
  | 0 => ⟨T.a + 1, T.b, T.c, T.d⟩ | 1 => ⟨T.a, T.b + 1, T.c, T.d⟩ | 2 => ⟨T.a, T.b, T.c + 1, T.d⟩ | 3 => ⟨T.a, T.b, T.c, T.d + 1⟩

def lanes (c : Dev nD) (T : T4) : sProp 𝕄 :=
  iprop(lane m ρ c 0 T.a ∗ lane m ρ c 1 T.b ∗ lane m ρ c 2 T.c ∗ lane m ρ c 3 T.d)

theorem lanes_at (c : Dev nD) (T : T4) (j : Fin 4) :
    lanes m ρ c T ⊢ iprop(lane m ρ c j (T.at j) ∗ ((lane m ρ c j (T.at j) -∗ lanes m ρ c T) ∧ (lane m ρ c j (T.at j + 1) -∗ lanes m ρ c (T.bump j)))) := by
  match j with
  | 0 =>
    show iprop(lane m ρ c 0 T.a ∗ lane m ρ c 1 T.b ∗ lane m ρ c 2 T.c ∗ lane m ρ c 3 T.d) ⊢ iprop(lane m ρ c 0 T.a ∗ ((lane m ρ c 0 T.a -∗ iprop(lane m ρ c 0 T.a ∗ lane m ρ c 1 T.b ∗ lane m ρ c 2 T.c ∗ lane m ρ c 3 T.d)) ∧
      (lane m ρ c 0 (T.a + 1) -∗ iprop(lane m ρ c 0 (T.a + 1) ∗ lane m ρ c 1 T.b ∗ lane m ρ c 2 T.c ∗ lane m ρ c 3 T.d))))
    iintro ⟨H0, H1, H2, H3⟩
    isplitl [H0]; · iexact H0
    isplit
    · iintro H
      isplitl [H]; · iexact H
      isplitl [H1]; · iexact H1
      isplitl [H2]; · iexact H2
      iexact H3
    · iintro H
      isplitl [H]; · iexact H
      isplitl [H1]; · iexact H1
      isplitl [H2]; · iexact H2
      iexact H3
  | 1 =>
    show iprop(lane m ρ c 0 T.a ∗ lane m ρ c 1 T.b ∗ lane m ρ c 2 T.c ∗ lane m ρ c 3 T.d) ⊢ iprop(lane m ρ c 1 T.b ∗ ((lane m ρ c 1 T.b -∗ iprop(lane m ρ c 0 T.a ∗ lane m ρ c 1 T.b ∗ lane m ρ c 2 T.c ∗ lane m ρ c 3 T.d)) ∧
      (lane m ρ c 1 (T.b + 1) -∗ iprop(lane m ρ c 0 T.a ∗ lane m ρ c 1 (T.b + 1) ∗ lane m ρ c 2 T.c ∗ lane m ρ c 3 T.d))))
    iintro ⟨H0, H1, H2, H3⟩
    isplitl [H1]; · iexact H1
    isplit
    · iintro H
      isplitl [H0]; · iexact H0
      isplitl [H]; · iexact H
      isplitl [H2]; · iexact H2
      iexact H3
    · iintro H
      isplitl [H0]; · iexact H0
      isplitl [H]; · iexact H
      isplitl [H2]; · iexact H2
      iexact H3
  | 2 =>
    show iprop(lane m ρ c 0 T.a ∗ lane m ρ c 1 T.b ∗ lane m ρ c 2 T.c ∗ lane m ρ c 3 T.d) ⊢ iprop(lane m ρ c 2 T.c ∗ ((lane m ρ c 2 T.c -∗ iprop(lane m ρ c 0 T.a ∗ lane m ρ c 1 T.b ∗ lane m ρ c 2 T.c ∗ lane m ρ c 3 T.d)) ∧
      (lane m ρ c 2 (T.c + 1) -∗ iprop(lane m ρ c 0 T.a ∗ lane m ρ c 1 T.b ∗ lane m ρ c 2 (T.c + 1) ∗ lane m ρ c 3 T.d))))
    iintro ⟨H0, H1, H2, H3⟩
    isplitl [H2]; · iexact H2
    isplit
    · iintro H
      isplitl [H0]; · iexact H0
      isplitl [H1]; · iexact H1
      isplitl [H]; · iexact H
      iexact H3
    · iintro H
      isplitl [H0]; · iexact H0
      isplitl [H1]; · iexact H1
      isplitl [H]; · iexact H
      iexact H3
  | 3 =>
    show iprop(lane m ρ c 0 T.a ∗ lane m ρ c 1 T.b ∗ lane m ρ c 2 T.c ∗ lane m ρ c 3 T.d) ⊢ iprop(lane m ρ c 3 T.d ∗ ((lane m ρ c 3 T.d -∗ iprop(lane m ρ c 0 T.a ∗ lane m ρ c 1 T.b ∗ lane m ρ c 2 T.c ∗ lane m ρ c 3 T.d)) ∧
      (lane m ρ c 3 (T.d + 1) -∗ iprop(lane m ρ c 0 T.a ∗ lane m ρ c 1 T.b ∗ lane m ρ c 2 T.c ∗ lane m ρ c 3 (T.d + 1)))))
    iintro ⟨H0, H1, H2, H3⟩
    isplitl [H3]; · iexact H3
    isplit
    · iintro H
      isplitl [H0]; · iexact H0
      isplitl [H1]; · iexact H1
      isplitl [H2]; · iexact H2
      iexact H
    · iintro H
      isplitl [H0]; · iexact H0
      isplitl [H1]; · iexact H1
      isplitl [H2]; · iexact H2
      iexact H

/-- An event's trade, among the four blocks. -/
theorem lanes_trade (c : Dev nD) (T : T4) (j : Fin 4) (e : Ev) (he : evs[T.at j]? = some e) :
    lanes m ρ c T ⊢ iprop(sepL (piece m ρ c j) (pre j e) ∗ (sepL (piece m ρ c j) (post j e) -∗ lanes m ρ c (T.bump j))) := by
  iintro H
  ihave H := (lanes_at m ρ c T j) $$ H
  icases H with ⟨H, Hk⟩
  ihave H := (lane_trade m ρ c j (T.at j) e he) $$ H
  icases H with ⟨Hp, Hb⟩
  isplitl [Hp]; · iexact Hp
  iintro Hq
  ihave Hb := Hb $$ Hq
  icases Hk with ⟨-, Hk⟩
  iapply Hk; iexact Hb

theorem lanes_peek (c : Dev nD) (T : T4) (j : Fin 4) (p : Pc) (hp : p ∈ laneAt j (T.at j)) :
    lanes m ρ c T ⊢ iprop(piece m ρ c j p ∗ (piece m ρ c j p -∗ lanes m ρ c T)) := by
  iintro H
  ihave H := (lanes_at m ρ c T j) $$ H
  icases H with ⟨H, Hk⟩
  ihave H := (lane_peek m ρ c j (T.at j) p hp) $$ H
  icases H with ⟨Hp, Hb⟩
  isplitl [Hp]; · iexact Hp
  iintro Hq
  ihave Hb := Hb $$ Hq
  icases Hk with ⟨Hk, -⟩
  iapply Hk; iexact Hb

end Cert.KernelIdealProof

end
-- ==== Proof.Steps.lean ====
/-
# The rules the walk over the body uses, one per kind of effect

`St K c T n B` is what device `c` holds at a point of the body: the records, the four blocks' pieces after `T` events,
what it still owes (all but the first `n` debts), the two scratch copies of its inputs, and whatever else, `B`.
-/
module

public import proofs.«01_k».proof.Proof.Lane

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

abbrev 𝒱₀ : Variants := Variants.none

/-- A program of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, that every cell has reached its round, and the levels. -/
def recs : sProp 𝕄 :=
  iprop((bigSep Finset.univ fun ck : Dev nD × Cid => cellInv ER (Rd m ρ) (K ck) (kcell ck))
    ∗ (bigSep Finset.univ fun ck : Dev nD × Cid => reached ER (kcell ck) 0) ∗ levAts L lv)

instance recs_persistent : BI.Persistent (recs m ρ K) := by unfold recs; infer_instance

theorem inv_at (ck : Dev nD × Cid) : recs m ρ K ⊢ cellInv ER (Rd m ρ) (K ck) (kcell ck) := by
  have h : (bigSep Finset.univ fun ck : Dev nD × Cid => (cellInv ER (Rd m ρ) (K ck) (kcell ck) : sProp 𝕄)) ⊢ cellInv ER (Rd m ρ) (K ck) (kcell ck) :=
    bigSep_elim (Finset.mem_univ ck)
  unfold recs; iintro ⟨H, -, -⟩
  iapply h; iexact H
theorem reached_at (ck : Dev nD × Cid) : recs m ρ K ⊢ reached ER (kcell ck) 0 := by
  have h : (bigSep Finset.univ fun ck : Dev nD × Cid => (reached ER (kcell ck) 0 : sProp 𝕄)) ⊢ reached ER (kcell ck) 0 :=
    bigSep_elim (Finset.mem_univ ck)
  unfold recs; iintro ⟨-, H, -⟩
  iapply h; iexact H
theorem lev_at : recs m ρ K ⊢ levAts L lv := by
  unfold recs; iintro ⟨-, -, H⟩; iexact H

/-- The scratch copies of the device's blocks of `x` and `w`. -/
def XW : sProp 𝕄 :=
  iprop((((c : Thread nD τ).loc cc0_scratch0) ↦{fullShare} xbv m ρ c) ∗ (((c : Thread nD τ).loc cc0_scratch1) ↦{fullShare} wbv m ρ c))

/-- The debts from the `n`-th on. -/
def ow (n : ℕ) : sProp 𝕄 := iprop(∃ W, owes (c : Thread nD τ) (oweL c (obs.drop n)) W)

def St (T : T4) (n : ℕ) (B : sProp 𝕄) : sProp 𝕄 :=
  iprop(recs m ρ K ∗ lanes m ρ c T ∗ ow (F := F) c n ∗ XW m ρ c ∗ B)

variable {α : Type} {T : T4} {n : ℕ}

/-! ## The trades, spelt out -/

section Trades
variable (d : Bool) (s : Fin 3) (j : Fin 4)
theorem post_store : sepL (piece m ρ c j) (post j (.store d s)) = iprop(sl c d s j (V m ρ c d s j) ∗ emp) := rfl
theorem pre_send : sepL (piece m ρ c j) (pre j (.send d s))
    = iprop((atPos ER (kcell (c, kSnd d s j)) 0 ∅ 0 ∗ dutyTok ER (kcell (c, kSnd d s j)) 0 false ∗ dutyTok ER (kcell (fwd d c, kRcv d s j)) 0 false)
      ∗ sl c d s j (V m ρ c d s j) ∗ tgt c d s j ∗ sepL (piece m ρ c j) (rideOut d s j)) := rfl
theorem post_send : sepL (piece m ρ c j) (post j (.send d s))
    = iprop((atPos ER (kcell (c, kSnd d s j)) 0 ∅ 0 ∗ cred (tallyAt (kcell (c, kSnd d s j)) () N)) ∗ emp) := rfl
theorem pre_recv : sepL (piece m ρ c j) (pre j (.recv d s))
    = iprop((atPos ER (kcell (c, kRcv d s j)) 0 ∅ 0 ∗ cred (tallyAt (kcell (c, kRcv d s j)) () N)) ∗ emp) := rfl
theorem post_recv : sepL (piece m ρ c j) (post j (.recv d s))
    = iprop(atPos ER (kcell (c, kRcv d s j)) (0 + 1) ∅ 0 ∗ sl c d (nxt3 s) j (V m ρ (bwd d c) d (nxt3 s + 2) j) ∗ sepL (piece m ρ c j) (rideIn d s j)) := rfl
theorem pre_back : sepL (piece m ρ c j) (pre j (.back d s))
    = iprop((atPos ER (kcell (c, kSnd d s j)) 0 ∅ 0 ∗ cred (tallyAt (kcell (c, kSnd d s j)) () N)) ∗ emp) := rfl
theorem post_back : sepL (piece m ρ c j) (post j (.back d s))
    = iprop(atPos ER (kcell (c, kSnd d s j)) (0 + 1) ∅ 0 ∗ slAny c d s j ∗ emp) := rfl
end Trades

/-! ## Loads and stores -/

theorem st_ldx {Q : α → sProp 𝕄} {B : sProp 𝕄} {r : LoadRect S4096x1024} {hl} {k : (r.shape.Idx → Elt F (.bf16)) → Prog (TpuEff nD τ sig (Elt F) Λ₀ .tc) α}
    (h : St m ρ K c T n B ⊢ WP c (k (xM.view.readAt (Elt F) r (xbv m ρ c))) Q) :
    St m ρ K c T n B ⊢ WP c (.op (.load xM r hl) k) Q := by
  unfold St XW at h ⊢
  iintro ⟨#HR, HL, HO, ⟨Hx, Hw⟩, HB⟩
  iapply (wp_load 𝒱₀ (c : Thread nD τ) none Set.univ (m := xM) (Finset.subset_univ _)) $$ Hx; iintro Hx
  iapply h
  isplitr; · iexact HR
  isplitl [HL]; · iexact HL
  isplitl [HO]; · iexact HO
  isplitl [Hx Hw]
  · isplitl [Hx] <;> iassumption
  iexact HB

theorem st_ldw {Q : α → sProp 𝕄} {B : sProp 𝕄} {r : LoadRect S1024x2048} {hl} {k : (r.shape.Idx → Elt F (.bf16)) → Prog (TpuEff nD τ sig (Elt F) Λ₀ .tc) α}
    (h : St m ρ K c T n B ⊢ WP c (k (wM.view.readAt (Elt F) r (wbv m ρ c))) Q) :
    St m ρ K c T n B ⊢ WP c (.op (.load wM r hl) k) Q := by
  unfold St XW at h ⊢
  iintro ⟨#HR, HL, HO, ⟨Hx, Hw⟩, HB⟩
  iapply (wp_load 𝒱₀ (c : Thread nD τ) none Set.univ (m := wM) (Finset.subset_univ _)) $$ Hw; iintro Hw
  iapply h
  isplitr; · iexact HR
  isplitl [HL]; · iexact HL
  isplitl [HO]; · iexact HO
  isplitl [Hx Hw]
  · isplitl [Hx] <;> iassumption
  iexact HB

/-- A load of a slot whose contents are known. -/
theorem wp_load_sl {Q : α → sProp 𝕄} (d : Bool) (s : Fin 3) (j : Fin 4) (X) {hl} {k : ((slotR s j).shape.Idx → Elt F .bf16) → Prog (TpuEff nD τ sig (Elt F) Λ₀ .tc) α} :
    sl c d s j X ⊢ iprop((sl c d s j X -∗ WP c (k X) Q) -∗ WP c (.op (.load (comM d) (slotR s j).toLoadRect hl) k) Q) := by
  unfold sl ownsTc owns
  iintro ⟨%f, %hf, H⟩ Hk
  iapply (wp_load_rect 𝒱₀ (c : Thread nD τ) none Set.univ (m := comM d) (r := slotR s j) (S := (slot4 d s j).view.set) (Finset.Subset.refl _)) $$ H; iintro H
  have hX : ((comM d).access (slotR s j)).read (Elt F) f = X := hf
  rw [hX]
  iapply Hk
  iexists f
  isplitr; · ipureintro; exact hf
  iexact H

/-- A store over a whole slot. -/
theorem wp_store_sl {Q : α → sProp 𝕄} (d : Bool) (s : Fin 3) (j : Fin 4) {w : Vec F S1x1x1024x256 .bf16} {hx hm} {k : PUnit → Prog (TpuEff nD τ sig (Elt F) Λ₀ .tc) α} :
    slAny c d s j ⊢ iprop((sl c d s j w -∗ WP c (k ⟨⟩) Q) -∗ WP c (.op (.store (comM d) (slotR s j) w Finset.univ hx hm) k) Q) := by
  unfold slAny sl ownsTc owns
  iintro ⟨%X, %f, %hf, H⟩ Hk
  iapply (wp_store 𝒱₀ (c : Thread nD τ) none Set.univ (m := comM d) (r := slotR s j) (Mk := Finset.univ) (S := (slot4 d s j).view.set) (Finset.Subset.refl _)) $$ H; iintro H
  iapply Hk
  iexists (((comM d).access (slotR s j)).write (Elt F) f w Finset.univ)
  isplitr; · ipureintro; exact View.read_write_univ (Val := Elt F) (v := (comM d).access (slotR s j)) f w
  iexact H

/-- A load of a slot an arrived hop filled. -/
theorem st_load {Q : α → sProp 𝕄} {B : sProp 𝕄} (d : Bool) (s : Fin 3) (j : Fin 4) {hl} {k : ((slotR s j).shape.Idx → Elt F .bf16) → Prog (TpuEff nD τ sig (Elt F) Λ₀ .tc) α}
    (hp : .arr d s ∈ laneAt j (T.at j)) (h : St m ρ K c T n B ⊢ WP c (k (V m ρ (bwd d c) d (s + 2) j)) Q) :
    St m ρ K c T n B ⊢ WP c (.op (.load (comM d) (slotR s j).toLoadRect hl) k) Q := by
  unfold St at h ⊢
  iintro ⟨#HR, HL, HO, HX, HB⟩
  ihave HL := (lanes_peek m ρ c T j _ hp) $$ HL
  icases HL with ⟨Hp, HL⟩
  ihave Hp := (Entails.of_eq (show piece m ρ c j (.arr d s) = sl c d s j (V m ρ (bwd d c) d (s + 2) j) from rfl)) $$ Hp
  iapply (wp_load_sl c d s j _) $$ Hp
  iintro Hp
  ihave HL := HL $$ [Hp]
  · rw [show piece m ρ c j (.arr d s) = sl c d s j (V m ρ (bwd d c) d (s + 2) j) from rfl]; iexact Hp
  iapply h
  isplitr; · iexact HR
  isplitl [HL]; · iexact HL
  isplitl [HO]; · iexact HO
  isplitl [HX] <;> iassumption

/-- A load of an own slot, whatever it holds. -/
theorem st_load_any {Q : α → sProp 𝕄} {B : sProp 𝕄} (d : Bool) (s : Fin 3) (j : Fin 4) {hl} {k : ((slotR s j).shape.Idx → Elt F .bf16) → Prog (TpuEff nD τ sig (Elt F) Λ₀ .tc) α}
    (hp : .any d s ∈ laneAt j (T.at j)) (h : ∀ v, St m ρ K c T n B ⊢ WP c (k v) Q) :
    St m ρ K c T n B ⊢ WP c (.op (.load (comM d) (slotR s j).toLoadRect hl) k) Q := by
  unfold St at h ⊢
  iintro ⟨#HR, HL, HO, HX, HB⟩
  ihave HL := (lanes_peek m ρ c T j _ hp) $$ HL
  icases HL with ⟨Hp, HL⟩
  ihave Hp := (Entails.of_eq (show piece m ρ c j (.any d s) = iprop(∃ X, sl c d s j X) from rfl)) $$ Hp
  icases Hp with ⟨%X, Hp⟩
  iapply (wp_load_sl c d s j X) $$ Hp
  iintro Hp
  ihave HL := HL $$ [Hp]
  · rw [show piece m ρ c j (.any d s) = iprop(∃ X, sl c d s j X) from rfl]; iexists X; iexact Hp
  iapply (h X)
  isplitr; · iexact HR
  isplitl [HL]; · iexact HL
  isplitl [HO]; · iexact HO
  isplitl [HX] <;> iassumption

theorem pre_store (d : Bool) (s : Fin 3) (j : Fin 4) : sepL (piece m ρ c j) (pre j (.store d s)) ⊢ slAny c d s j := by
  by_cases hs : s = 0
  · rw [show sepL (piece m ρ c j) (pre j (.store d s)) = iprop(slAny c d s j ∗ emp) from by subst hs; rfl]
    iintro ⟨H, -⟩; iexact H
  · rw [show pre j (.store d s) = [.arr d s] from if_neg hs,
      show sepL (piece m ρ c j) [.arr d s] = iprop(sl c d s j (V m ρ (bwd d c) d (s + 2) j) ∗ emp) from rfl]
    unfold slAny
    iintro ⟨H, -⟩; iexists _; iexact H

/-- The store of what a hop sends. -/
theorem st_store {Q : α → sProp 𝕄} {B : sProp 𝕄} (d : Bool) (s : Fin 3) (j : Fin 4) {w : Vec F S1x1x1024x256 .bf16} {hx hm} {k : PUnit → Prog (TpuEff nD τ sig (Elt F) Λ₀ .tc) α}
    (he : evs[T.at j]? = some (.store d s)) (hw : w = V m ρ c d s j) (h : St m ρ K c (T.bump j) n B ⊢ WP c (k ⟨⟩) Q) :
    St m ρ K c T n B ⊢ WP c (.op (.store (comM d) (slotR s j) w Finset.univ hx hm) k) Q := by
  subst hw
  unfold St at h ⊢
  iintro ⟨#HR, HL, HO, HX, HB⟩
  ihave HL := (lanes_trade m ρ c T j _ he) $$ HL
  icases HL with ⟨Hp, HL⟩
  ihave Hp := (pre_store m ρ c d s j) $$ Hp
  iapply (wp_store_sl c d s j) $$ Hp
  iintro Hp
  ihave HL := HL $$ [Hp]
  · rw [post_store]
    isplitl [Hp]; · iexact Hp
    iempintro
  iapply h
  isplitr; · iexact HR
  isplitl [HL]; · iexact HL
  isplitl [HO]; · iexact HO
  isplitl [HX] <;> iassumption

/-! ## A hop sent -/

theorem slotM_set (d : Bool) (s : Fin 3) (j : Fin 4) : (slotM d s j).view.set = (slot4 d s j).view.set := View.set_reshape _ _

/-- What a copy of a slot leaves in the slot it lands in. -/
theorem landed_read (d d' : Bool) (s s' : Fin 3) (j j' : Fin 4) (fs : (slotM d s j).view.ty.Contents (Elt F)) (fd : (slotM d' s' j').view.ty.Contents (Elt F)) :
    (slot4 d' s' j').view.read (Elt F) ((slotM d' s' j').view.write (Elt F) fd ((slotM d s j).view.read (Elt F) fs) Finset.univ) = (slot4 d s j).view.read (Elt F) fs := by
  have h := View.read_write_univ (Val := Elt F) (v := (slotM d' s' j').view) fd ((slotM d s j).view.read (Elt F) fs)
  funext i
  have h' := congrFun h ((Shape.reshapeEquiv (squeezes_S1x1x1024x256_S1024x256 : S1x1x1024x256.Squeezes S1024x256).numel_eq).symm i)
  have e : ∀ (d : Bool) (s : Fin 3) (j : Fin 4) (f : (slotM d s j).view.ty.Contents (Elt F)),
      (slotM d s j).view.read (Elt F) f ((Shape.reshapeEquiv (squeezes_S1x1x1024x256_S1024x256 : S1x1x1024x256.Squeezes S1024x256).numel_eq).symm i)
        = (slot4 d s j).view.read (Elt F) f i := fun d s j f => by
    show (slot4 d s j).view.read (Elt F) f (Shape.reshapeEquiv _ ((Shape.reshapeEquiv _).symm i)) = _
    rw [Equiv.apply_symm_apply]
  rw [e, e] at h'
  exact h'

theorem ride_out (d : Bool) (s : Fin 3) (j : Fin 4) : sepL (piece m ρ c j) (rideOut d s j) ⊢ along (fwd d c) d s j := by
  unfold rideOut along
  by_cases hs : s = 1
  · rw [if_pos hs, if_pos hs]
    rw [show sepL (piece m ρ c j) [.any (!d) 0] = iprop(slAny c (!d) 0 j ∗ emp) from rfl]
    unfold tgt
    rw [fwd_nfwd]
    iintro ⟨H, -⟩; iexact H
  · rw [if_neg hs, if_neg hs]
    by_cases h : d = false ∧ s = 0 ∧ j = 0
    · rw [if_pos h, if_pos h]
      rw [show sepL (piece m ρ c j) [.fw] = iprop(amAny (fwd true c) (bwd true c) ∗ emp) from rfl, show fwd true c = opp (fwd d c) from by rw [h.1]; revert c; decide, show bwd true c = fwd d c from by rw [h.1]; rfl]
      iintro ⟨H, -⟩; iexact H
    · rw [if_neg h, if_neg h]; exact BI.Entails.refl _

/-- A hop sent: the source goes, to come back with the wait on its send cell, and the debt for it is paid. -/
theorem st_send {Q : α → sProp 𝕄} {B : sProp 𝕄} (d : Bool) (s : Fin 3) (j : Fin 4) {src dst : Memref sig .tc .vmem S1024x256 .bf16} {sS sR : SemLoc sig} {nd : Dev nD} {hsc h1 h2 h3}
    {k : PUnit → Prog (TpuEff nD τ sig (Elt F) Λ₀ .tc) α}
    (hn : nd = fwd d c) (hsrc : src = slotM d s j) (hdst : dst = slotM d (nxt3 s) j) (hsS : sS = csem (kSnd d s j)) (hsR : sR = csem (kRcv d s j))
    (he : evs[T.at j]? = some (.send d s)) (ho : obs.drop n = .hop d s j :: obs.drop (n + 1))
    (h : St m ρ K c (T.bump j) (n + 1) B ⊢ WP c (k ⟨⟩) Q) :
    St m ρ K c T n B ⊢ WP c (.op (.enqueueDma src (.remote (nd : Thread nD τ) dst sS hsc) sR h1 h2 h3) k) Q := by
  subst hn hsrc hdst hsS hsR
  unfold St ow at h ⊢
  iintro ⟨#HR, HL, ⟨%W, HO⟩, HX, HB⟩
  ihave HL := (lanes_trade m ρ c T j _ he) $$ HL
  icases HL with ⟨Hp, HL⟩
  ihave Hp := (Entails.of_eq (pre_send m ρ c d s j)) $$ Hp
  icases Hp with ⟨⟨Hat, Ht1, Ht2⟩, Hown, Htgt, Hride⟩
  ihave Hride := (ride_out m ρ c d s j) $$ [Hride]
  · iexact Hride
  unfold tgt slAny sl ownsTc owns
  icases Hown with ⟨%fs, %hfs, Hown⟩
  icases Htgt with ⟨%X, %fd, -, Htgt⟩
  rw [ho]
  ihave Hown := (Entails.of_eq (show ((slot4 d s j).view.loc (c : Thread nD τ) ↦[(slot4 d s j).view.set]{fullShare} fs : sProp 𝕄)
    = ((slotM d s j).view.loc (c : Thread nD τ) ↦[(slotM d s j).view.set]{fullShare} fs) from by rw [slotM_set])) $$ Hown
  ihave Htgt := (Entails.of_eq (show ((slot4 d (nxt3 s) j).view.loc (fwd d c : Thread nD τ) ↦[(slot4 d (nxt3 s) j).view.set]{fullShare} fd : sProp 𝕄)
    = ((slotM d (nxt3 s) j).view.loc (fwd d c : Thread nD τ) ↦[(slotM d (nxt3 s) j).view.set]{fullShare} fd) from by rw [slotM_set])) $$ Htgt
  iapply (Rounds.wp_send_pointsTo_with 𝒱₀ ER (Rd m ρ) (c : Thread nD τ) none (κ₁ := K (c, kSnd d s j)) (κ₂ := K (fwd d c, kRcv d s j))
    (r₁ := 0) (r₂ := 0) (d₁ := false) (d₂ := false) (fd := fd) (fs := fs) (F := along (fwd d c) d s j)
    (by rw [duties_at m ρ (c, kSnd d s j)]; exact Finset.mem_singleton_self _) (by rw [duties_at m ρ (fwd d c, kRcv d s j)]; exact Finset.mem_singleton_self _)
    () () N (by cases d <;> rfl) (amount_at m ρ (c, kSnd d s j) false) (amount_at m ρ (fwd d c, kRcv d s j) false) (oweL c (obs.drop (n + 1))) rfl (W := W)
    (by rw [payload_at m ρ (c, kSnd d s j)]
        show _ ⊢ slAny c d s j
        unfold slAny sl ownsTc owns
        rw [slotM_set]
        iintro H; iexists _; iexists fs; isplitr; · (ipureintro; rfl)
        iexact H)
    (by rw [payload_at m ρ (fwd d c, kRcv d s j)]
        show _ ⊢ iprop(sl (fwd d c) d (nxt3 s) j (V m ρ (bwd d (fwd d c)) d s j) ∗ along (fwd d c) d s j)
        rw [bwd_fwd]
        refine sep_mono_left ?_
        unfold sl ownsTc owns
        rw [slotM_set]
        iintro H; iexists _; isplitr
        · ipureintro; exact (landed_read d d s (nxt3 s) j j fs fd).trans hfs
        iexact H)) $$ [Hown Htgt Hride HO Ht1 Ht2]
  · isplitr; · iapply (inv_at m ρ K (c, kSnd d s j)); iexact HR
    isplitr; · iapply (inv_at m ρ K (fwd d c, kRcv d s j)); iexact HR
    isplitl [Hown]; · iexact Hown
    isplitl [Htgt Hride]
    · isplitl [Htgt]; · iexact Htgt
      iexact Hride
    isplitl [HO]; · iexact HO
    isplitl [Ht1]; · iexact Ht1
    isplitr; · iapply (reached_at m ρ K (c, kSnd d s j)); iexact HR
    isplitl [Ht2]; · iexact Ht2
    iapply (reached_at m ρ K (fwd d c, kRcv d s j)); iexact HR
  iintro ⟨Hc, HO⟩
  ihave HL := HL $$ [Hat Hc]
  · rw [post_send]
    isplitl [Hat Hc]
    · isplitl [Hat] <;> iassumption
    iempintro
  iapply h
  isplitr; · iexact HR
  isplitl [HL]; · iexact HL
  isplitl [HO]; · iexists W; iexact HO
  isplitl [HX] <;> iassumption

/-! ## Waits -/

theorem ride_in (d : Bool) (s : Fin 3) (j : Fin 4) : along c d s j ⊢ sepL (piece m ρ c j) (rideIn d s j) := by
  unfold rideIn along
  by_cases hs : s = 1
  · rw [if_pos hs, if_pos hs]
    rw [show sepL (piece m ρ c j) [.tgt (!d) 2] = iprop(tgt c (!d) 2 j ∗ emp) from rfl]
    iintro H; isplitl; · iexact H
    iempintro
  · rw [if_neg hs, if_neg hs]
    by_cases h : d = false ∧ s = 0 ∧ j = 0
    · rw [if_pos h, if_pos h]
      rw [show sepL (piece m ρ c j) [.bk] = iprop(amAny (opp c) c ∗ emp) from rfl]
      iintro H; isplitl; · iexact H
      iempintro
    · rw [if_neg h, if_neg h]; exact BI.Entails.refl _

/-- The wait for a hop from the neighbour. -/
theorem st_recv {Q : α → sProp 𝕄} {B : sProp 𝕄} (d : Bool) (s : Fin 3) (j : Fin 4) {q : DmaSem sig} {src dst : Memref sig .tc .vmem S1024x256 .bf16} {h1 h2}
    {k : PUnit → Prog (TpuEff nD τ sig (Elt F) Λ₀ .tc) α}
    (hq : .dma q = csem (kRcv d s j)) (hN : dst.view.dmaCredit = N) (he : evs[T.at j]? = some (.recv d s))
    (ho : ∀ o ∈ obs.drop n, 2 + s.val < o.lvl)
    (h : St m ρ K c (T.bump j) n B ⊢ WP c (k ⟨⟩) Q) :
    St m ρ K c T n B ⊢ WP c (.op (.waitDma2 q src dst h1 h2) k) Q := by
  unfold St ow at h ⊢
  iintro ⟨#HR, HL, ⟨%W, HO⟩, HX, HB⟩
  ihave HL := (lanes_trade m ρ c T j _ he) $$ HL
  icases HL with ⟨Hp, HL⟩
  ihave Hp := (Entails.of_eq (pre_recv m ρ c d s j)) $$ Hp
  icases Hp with ⟨⟨Hat, Hc⟩, -⟩
  iapply (Rounds.wp_wait_rest_token 𝒱₀ ER (Rd m ρ) (c : Thread nD τ) none (κ := K (c, kRcv d s j)) (sm := csem (kRcv d s j)) (k' := N)
      (fun Kt => by rw [wpE_waitDma2_eq 𝒱₀ (c : Thread nD τ) none Set.univ, hN, hq]) (Set.mem_univ _) () (O := oweL c (obs.drop n)) (W := W) (R := 0) (m := 0) (T := ∅)
      (by rw [expect_at m ρ (c, kRcv d s j), Nat.zero_add]; exact (Nat.one_mul N).symm)) $$ [Hc HO Hat]
  · isplitr; · iapply (inv_at m ρ K (c, kRcv d s j)); iexact HR
    isplitl [Hc]; · iexact Hc
    isplitl [HO]; · iexact HO
    isplitr; · iapply (mayWait_at c (kRcv d s j) _ ho); iapply (lev_at m ρ K); iexact HR
    iexact Hat
  iintro ⟨HO, Hat, -, Hpay⟩
  ihave Hpay := (Entails.of_eq ((rest_at m ρ (c, kRcv d s j)).trans bigSep_singleton)) $$ Hpay
  ihave HL := HL $$ [Hat Hpay]
  · ihave Hpay := (Entails.of_eq (show payC m ρ c (kRcv d s j) false = iprop(sl c d (nxt3 s) j (V m ρ (bwd d c) d s j) ∗ along c d s j) from rfl)) $$ Hpay
    icases Hpay with ⟨Hsl, Hr⟩
    ihave Hr := (ride_in m ρ c d s j) $$ Hr
    rw [post_recv]
    isplitl [Hat]; · iexact Hat
    isplitl [Hsl]
    · rw [(by decide : ∀ s : Fin 3, nxt3 s + 2 = s) s]; iexact Hsl
    iexact Hr
  iapply h
  isplitr; · iexact HR
  isplitl [HL]; · iexact HL
  isplitl [HO]; · iexists _; iexact HO
  isplitl [HX] <;> iassumption

/-- The wait for a hop's source to be back. -/
theorem st_back {Q : α → sProp 𝕄} {B : sProp 𝕄} (d : Bool) (s : Fin 3) (j : Fin 4) {q : DmaSem sig} {src dst : Memref sig .tc .vmem S1024x256 .bf16} {h1 h2}
    {k : PUnit → Prog (TpuEff nD τ sig (Elt F) Λ₀ .tc) α}
    (hq : .dma q = csem (kSnd d s j)) (hN : dst.view.dmaCredit = N) (he : evs[T.at j]? = some (.back d s))
    (ho : ∀ o ∈ obs.drop n, 0 < o.lvl)
    (h : St m ρ K c (T.bump j) n B ⊢ WP c (k ⟨⟩) Q) :
    St m ρ K c T n B ⊢ WP c (.op (.waitDma2 q src dst h1 h2) k) Q := by
  unfold St ow at h ⊢
  iintro ⟨#HR, HL, ⟨%W, HO⟩, HX, HB⟩
  ihave HL := (lanes_trade m ρ c T j _ he) $$ HL
  icases HL with ⟨Hp, HL⟩
  ihave Hp := (Entails.of_eq (pre_back m ρ c d s j)) $$ Hp
  icases Hp with ⟨⟨Hat, Hc⟩, -⟩
  iapply (Rounds.wp_wait_rest_token 𝒱₀ ER (Rd m ρ) (c : Thread nD τ) none (κ := K (c, kSnd d s j)) (sm := csem (kSnd d s j)) (k' := N)
      (fun Kt => by rw [wpE_waitDma2_eq 𝒱₀ (c : Thread nD τ) none Set.univ, hN, hq]) (Set.mem_univ _) () (O := oweL c (obs.drop n)) (W := W) (R := 0) (m := 0) (T := ∅)
      (by rw [expect_at m ρ (c, kSnd d s j), Nat.zero_add]; exact (Nat.one_mul N).symm)) $$ [Hc HO Hat]
  · isplitr; · iapply (inv_at m ρ K (c, kSnd d s j)); iexact HR
    isplitl [Hc]; · iexact Hc
    isplitl [HO]; · iexact HO
    isplitr; · iapply (mayWait_at c (kSnd d s j) _ ho); iapply (lev_at m ρ K); iexact HR
    iexact Hat
  iintro ⟨HO, Hat, -, Hpay⟩
  ihave Hpay := (Entails.of_eq ((rest_at m ρ (c, kSnd d s j)).trans bigSep_singleton)) $$ Hpay
  ihave Hpay := (Entails.of_eq (show payC m ρ c (kSnd d s j) false = slAny c d s j from rfl)) $$ Hpay
  ihave HL := HL $$ [Hat Hpay]
  · rw [post_back]
    isplitl [Hat]; · iexact Hat
    isplitl [Hpay]; · iexact Hpay
    iempintro
  iapply h
  isplitr; · iexact HR
  isplitl [HL]; · iexact HL
  isplitl [HO]; · iexists _; iexact HO
  isplitl [HX] <;> iassumption

/-- The opposite device's landing slot leaves block `0`. -/
theorem st_take {B : sProp 𝕄} {P : sProp 𝕄} (he : evs[T.a]? = some .take) (h : St m ρ K c (T.bump 0) n iprop(amAny (opp c) c ∗ B) ⊢ P) : St m ρ K c T n B ⊢ P := by
  unfold St at h ⊢
  iintro ⟨#HR, HL, HO, HX, HB⟩
  ihave HL := (lanes_trade m ρ c T 0 _ he) $$ HL
  icases HL with ⟨Hp, HL⟩
  ihave HL := HL $$ []
  · rw [show sepL (piece m ρ c _) (post _ .take) = iprop(emp) from rfl]; iempintro
  iapply h
  isplitr; · iexact HR
  isplitl [HL]; · iexact HL
  isplitl [HO]; · iexact HO
  isplitl [HX]; · iexact HX
  isplitl [Hp]
  · ihave Hp := (Entails.of_eq (show sepL (piece m ρ c 0) (pre 0 .take) = iprop(amAny (opp c) c ∗ emp) from rfl)) $$ Hp
    icases Hp with ⟨Hp, -⟩
    iexact Hp
  iexact HB

theorem st_take' {B : sProp 𝕄} (j : Fin 4) (hj : j ≠ 0) {P : sProp 𝕄} (he : evs[T.at j]? = some .take) (h : St m ρ K c (T.bump j) n B ⊢ P) : St m ρ K c T n B ⊢ P := by
  unfold St at h ⊢
  iintro ⟨#HR, HL, HO, HX, HB⟩
  ihave HL := (lanes_trade m ρ c T j _ he) $$ HL
  icases HL with ⟨Hp, HL⟩
  ihave HL := HL $$ []
  · rw [show sepL (piece m ρ c _) (post _ .take) = iprop(emp) from rfl]; iempintro
  iapply h
  isplitr; · iexact HR
  isplitl [HL]; · iexact HL
  isplitl [HO]; · iexact HO
  isplitl [HX] <;> iassumption

end Cert.KernelIdealProof

end
-- ==== Proof.App.lean ====
/-
# The devices the program computes, and its parts at the launch's buffers
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

/-! ## The devices -/

theorem dev1_eq : ∀ c : Dev nD, (⟨k0_dev1 c, k0_dev1_lt c⟩ : Dev nD) = fwd false c := by decide +kernel
theorem dev2_eq : ∀ c : Dev nD, (⟨k0_dev2 c, k0_dev2_lt c⟩ : Dev nD) = fwd true c := by decide +kernel
theorem dev3_eq : ∀ c : Dev nD, (⟨k0_dev3 c, k0_dev3_lt c⟩ : Dev nD) = fwd true c := by decide +kernel
theorem dev4_eq : ∀ c : Dev nD, (⟨k0_dev4 c, k0_dev4_lt c⟩ : Dev nD) = fwd false c := by decide +kernel
theorem dev5_eq : ∀ c : Dev nD, (⟨k0_dev5 c, k0_dev5_lt c⟩ : Dev nD) = fwd true c := by decide +kernel
theorem dev6_eq : ∀ c : Dev nD, (⟨k0_dev6 c, k0_dev6_lt c⟩ : Dev nD) = fwd false c := by decide +kernel
theorem dev7_eq : ∀ c : Dev nD, (⟨k0_dev7 c, k0_dev7_lt c⟩ : Dev nD) = fwd true c := by decide +kernel
theorem dev8_eq : ∀ c : Dev nD, (⟨k0_dev8 c, k0_dev8_lt c⟩ : Dev nD) = fwd false c := by decide +kernel
theorem dev9_eq : ∀ c : Dev nD, (⟨k0_dev9 c, k0_dev9_lt c⟩ : Dev nD) = fwd true c := by decide +kernel
theorem dev10_eq : ∀ c : Dev nD, (⟨k0_dev10 c, k0_dev10_lt c⟩ : Dev nD) = fwd false c := by decide +kernel
theorem dev11_eq : ∀ c : Dev nD, (⟨k0_dev11 c, k0_dev11_lt c⟩ : Dev nD) = fwd true c := by decide +kernel
theorem dev12_eq : ∀ c : Dev nD, (⟨k0_dev12 c, k0_dev12_lt c⟩ : Dev nD) = fwd false c := by decide +kernel
theorem dev13_eq : ∀ c : Dev nD, (⟨k0_dev13 c, k0_dev13_lt c⟩ : Dev nD) = fwd true c := by decide +kernel
theorem dev14_eq : ∀ c : Dev nD, (⟨k0_dev14 c, k0_dev14_lt c⟩ : Dev nD) = fwd false c := by decide +kernel
theorem dev15_eq : ∀ c : Dev nD, (⟨k0_dev15 c, k0_dev15_lt c⟩ : Dev nD) = fwd true c := by decide +kernel
theorem dev16_eq : ∀ c : Dev nD, (⟨k0_dev16 c, k0_dev16_lt c⟩ : Dev nD) = fwd false c := by decide +kernel
theorem dev17_eq : ∀ c : Dev nD, (⟨k0_dev17 c, k0_dev17_lt c⟩ : Dev nD) = fwd true c := by decide +kernel
theorem dev18_eq : ∀ c : Dev nD, (⟨k0_dev18 c, k0_dev18_lt c⟩ : Dev nD) = fwd false c := by decide +kernel
theorem dev19_eq : ∀ c : Dev nD, (⟨k0_dev19 c, k0_dev19_lt c⟩ : Dev nD) = fwd true c := by decide +kernel
theorem dev20_eq : ∀ c : Dev nD, (⟨k0_dev20 c, k0_dev20_lt c⟩ : Dev nD) = fwd false c := by decide +kernel
theorem dev21_eq : ∀ c : Dev nD, (⟨k0_dev21 c, k0_dev21_lt c⟩ : Dev nD) = fwd true c := by decide +kernel
theorem dev22_eq : ∀ c : Dev nD, (⟨k0_dev22 c, k0_dev22_lt c⟩ : Dev nD) = fwd false c := by decide +kernel
theorem dev23_eq : ∀ c : Dev nD, (⟨k0_dev23 c, k0_dev23_lt c⟩ : Dev nD) = fwd true c := by decide +kernel
theorem dev24_eq : ∀ c : Dev nD, (⟨k0_dev24 c, k0_dev24_lt c⟩ : Dev nD) = fwd false c := by decide +kernel
theorem dev25_eq : ∀ c : Dev nD, (⟨k0_dev25 c, k0_dev25_lt c⟩ : Dev nD) = fwd true c := by decide +kernel
theorem dev26_eq : ∀ c : Dev nD, (⟨k0_dev26 c, k0_dev26_lt c⟩ : Dev nD) = fwd false c := by decide +kernel
theorem dev27_eq : ∀ c : Dev nD, (⟨k0_dev27 c, k0_dev27_lt c⟩ : Dev nD) = rot 1 c := by decide +kernel
theorem dev28_eq : ∀ c : Dev nD, (⟨k0_dev28 c, k0_dev28_lt c⟩ : Dev nD) = rot 2 c := by decide +kernel
theorem dev29_eq : ∀ c : Dev nD, (⟨k0_dev29 c, k0_dev29_lt c⟩ : Dev nD) = rot 3 c := by decide +kernel

/-- A part of the body at the launch's buffers and semaphores. -/
abbrev app {β : Type 1} (f : (a0 : Memref sig .tc .vmem S4096x1024 .bf16) → a0.IsWhole → (a1 : Memref sig .tc .vmem S1024x2048 .bf16) → a1.IsWhole → (a2 : Memref sig .tc .vmem S1024x2048 .bf16) → a2.IsWhole → (a3 : Memref sig .tc .vmem S4096x1024 .bf16) → a3.IsWhole → (a4 : Memref sig .tc .vmem S1024x2048 .bf16) → a4.IsWhole → (a5 : Memref sig .tc .vmem S3x4x1024x256 .bf16) → a5.IsWhole → (a6 : Memref sig .tc .vmem S3x4x1024x256 .bf16) → a6.IsWhole → (a7 : Memref sig .tc .vmem S8x128 .f32) → a7.IsWhole → (a8 : Memref sig .tc .vmem S4x8x128 .f32) → a8.IsWhole → DmaSems sig S3x4 → DmaSems sig S3x4 → DmaSems sig S3x4 → DmaSems sig S3x4 → DmaSems sig S3 → DmaSems sig S4 → β) : β :=
  f (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11

/-- The running maximum `a`, one block further. -/
abbrev mxB (a : F .f32) (d : Bool) (j : Fin 4) : F .f32 := Scalar.maximumf a (mxm (Y m ρ c d j))
/-- The running maximum after the first block, after the third, the fourth and the sixth, in the kernel's order. -/
def mxA : F .f32 := mxB m ρ c (Scalar.ofBits .f32 0x00000000#32) true 0
def mxC : F .f32 := mxB m ρ c (mxB m ρ c (mxA m ρ c) false 0) true 1
def mxD : F .f32 := mxB m ρ c (mxC m ρ c) false 1
def mxF : F .f32 := mxB m ρ c (mxB m ρ c (mxD m ρ c) true 2) false 2

/-- The end of a part. -/
theorem st_ret {α : Type} {P : sProp 𝕄} {Q : α → sProp 𝕄} {a : α} (h : P ⊢ Q a) : P ⊢ WP c (Prog.ret a) Q := by
  show P ⊢ wp frame (wpE (defs₀ (F := F)) 𝒱₀ (c : Thread nD τ) none) Set.univ (Prog.ret a) Q
  rw [wp_ret]; exact h.trans fupd_intro

end Cert.KernelIdealProof

end
-- ==== Proof.Slots.lean ====
/-
# A buffer as its slots

The communication buffers cut into their twelve slots and the received maxima into their four, both ways.
-/
module

public import proofs.«01_k».proof.Proof.App
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The rectangles -/

theorem amR_disj (k k' : Fin 4) (h : k ≠ k') : Disjoint (amR k).set (amR k').set := by
  rw [Finset.disjoint_left]
  intro i hi hi'
  have h1 := Rect.mem_set_unit.mp hi 0
  have h2 := Rect.mem_set_unit.mp hi' 0
  have e : S1x8x128.size 0 = 1 := rfl
  rw [e] at h1 h2
  change k.val ≤ (i 0).val ∧ (i 0).val < k.val + 1 at h1
  change k'.val ≤ (i 0).val ∧ (i 0).val < k'.val + 1 at h2
  exact h (Fin.ext (by omega))

theorem amR_cov : (Finset.univ : Finset (Fin 4)).biUnion (fun k => (amR k).set) = Finset.univ := by
  ext i
  simp only [Finset.mem_biUnion, Finset.mem_univ, true_and, iff_true]
  refine ⟨⟨(i 0).val, (i 0).isLt⟩, Rect.mem_set_unit.mpr fun a => ?_⟩
  have h1 := (i 1).isLt
  have h2 := (i 2).isLt
  match a with
  | 0 => exact ⟨le_refl _, Nat.lt_succ_self _⟩
  | 1 => exact ⟨Nat.zero_le _, by simpa using h1⟩
  | 2 => exact ⟨Nat.zero_le _, by simpa using h2⟩

theorem slotR_disj (x x' : Fin 3 × Fin 4) (h : x ≠ x') : Disjoint (slotR x.1 x.2).set (slotR x'.1 x'.2).set := by
  rw [Finset.disjoint_left]
  intro i hi hi'
  have h1 := Rect.mem_set_unit.mp hi 0
  have h2 := Rect.mem_set_unit.mp hi' 0
  have h3 := Rect.mem_set_unit.mp hi 1
  have h4 := Rect.mem_set_unit.mp hi' 1
  change x.1.val ≤ (i 0).val ∧ (i 0).val < x.1.val + 1 at h1
  change x'.1.val ≤ (i 0).val ∧ (i 0).val < x'.1.val + 1 at h2
  change x.2.val ≤ (i 1).val ∧ (i 1).val < x.2.val + 1 at h3
  change x'.2.val ≤ (i 1).val ∧ (i 1).val < x'.2.val + 1 at h4
  exact h (Prod.ext (Fin.ext (by omega)) (Fin.ext (by omega)))

theorem slotR_cov : (Finset.univ : Finset (Fin 3 × Fin 4)).biUnion (fun x => (slotR x.1 x.2).set) = Finset.univ := by
  ext i
  simp only [Finset.mem_biUnion, Finset.mem_univ, true_and, iff_true]
  refine ⟨(⟨(i 0).val, (i 0).isLt⟩, ⟨(i 1).val, (i 1).isLt⟩), Rect.mem_set_unit.mpr fun a => ?_⟩
  have h1 := (i 2).isLt
  have h2 := (i 3).isLt
  match a with
  | 0 => exact ⟨le_refl _, Nat.lt_succ_self _⟩
  | 1 => exact ⟨le_refl _, Nat.lt_succ_self _⟩
  | 2 => exact ⟨Nat.zero_le _, by simpa using h1⟩
  | 3 => exact ⟨Nat.zero_le _, by simpa using h2⟩

theorem amR_emb (k : Fin 4) (j : (amR k).shape.Idx) : ((amR k).emb j) (0 : Fin 3) = k := by
  apply Fin.ext
  have h1 : (j (0 : Fin 3)).val < 1 := (j (0 : Fin 3)).isLt
  show k.val + 1 * (j (0 : Fin 3)).val = k.val
  omega

/-! ## The buffers -/

/-- The scratch buffer of the direction. -/
abbrev comB : Bool → Ref sig .tc
  | true => cc0_scratch2
  | false => cc0_scratch3

/-- What the four devices' maxima are, in the landing buffer. -/
def amAll : Vec F S4x8x128 .f32 := fun i => amx m ρ (i (0 : Fin 3))

theorem am_any (k : Fin 4) (X) : am (F := F) c k X ⊢ amAny c k := by
  unfold amAny; iintro H; iexists X; iexact H
theorem sl_any (d : Bool) (s : Fin 3) (j : Fin 4) (X) : sl (F := F) c d s j X ⊢ slAny c d s j := by
  unfold slAny; iintro H; iexists X; iexact H

theorem am_split : iprop(∃ f, ((c : Thread nD τ).loc cc0_scratch5) ↦{fullShare} f) ⊢ (bigSep Finset.univ fun k : Fin 4 => amAny (F := F) c k : sProp 𝕄) := by
  iintro ⟨%f, H⟩
  have h := owns_rects (Ix := Unit) (Name := ℕ) (U := UU) (Lvl := ℕ) (Val := Elt F) (c : Thread nD τ) aR fullShare amR (fun _ _ => rfl) amR_disj amR_cov f
  rw [owns_whole] at h
  iapply (h.trans (bigSep_mono fun k _ => am_any c k (fun j => f ((amR k).emb j))))
  iexact H

theorem am_join : (bigSep Finset.univ fun k : Fin 4 => am c k (fun _ => amx m ρ k)) ⊢ (((c : Thread nD τ).loc cc0_scratch5) ↦{fullShare} amAll m ρ : sProp 𝕄) := by
  have h := owns_of_rects (Ix := Unit) (Name := ℕ) (U := UU) (Lvl := ℕ) (c : Thread nD τ) aR fullShare amR (fun _ _ => rfl) amR_disj amR_cov (amAll (F := F) m ρ)
  rw [owns_whole] at h
  refine (Entails.of_eq (bigSep_congr fun k _ => ?_)).trans h
  unfold am ownsTc
  refine congrArg (owns (c : Thread nD τ) (am3 k) fullShare) ?_
  funext j
  show amx m ρ k = amx m ρ (((amR k).emb j) (0 : Fin 3))
  rw [amR_emb]

theorem com_split (d : Bool) : iprop(∃ f, ((c : Thread nD τ).loc (comB d)) ↦{fullShare} f) ⊢ (bigSep Finset.univ fun x : Fin 3 × Fin 4 => slAny (F := F) c d x.1 x.2 : sProp 𝕄) := by
  iintro ⟨%f, H⟩
  cases d with
  | true =>
    have h := owns_rects (Ix := Unit) (Name := ℕ) (U := UU) (Lvl := ℕ) (Val := Elt F) (c : Thread nD τ) (comM true) fullShare (fun x : Fin 3 × Fin 4 => slotR x.1 x.2) (fun _ _ => rfl) slotR_disj slotR_cov f
    rw [owns_whole] at h
    iapply (h.trans (bigSep_mono fun x _ => sl_any c true x.1 x.2 (fun j => f ((slotR x.1 x.2).emb j)))); iexact H
  | false =>
    have h := owns_rects (Ix := Unit) (Name := ℕ) (U := UU) (Lvl := ℕ) (Val := Elt F) (c : Thread nD τ) (comM false) fullShare (fun x : Fin 3 × Fin 4 => slotR x.1 x.2) (fun _ _ => rfl) slotR_disj slotR_cov f
    rw [owns_whole] at h
    iapply (h.trans (bigSep_mono fun x _ => sl_any c false x.1 x.2 (fun j => f ((slotR x.1 x.2).emb j)))); iexact H

include m in
theorem com_join (d : Bool) : (bigSep Finset.univ fun x : Fin 3 × Fin 4 => slAny (F := F) c d x.1 x.2 : sProp 𝕄) ⊢ iprop(∃ f, ((c : Thread nD τ).loc (comB d)) ↦{fullShare} f) := by
  cases d with
  | true =>
    refine BI.Entails.trans (bigSep_mono fun x _ => ?_) (Ring.pointsTo_blocks_join_exists (ℓ := (c : Thread nD τ).loc cc0_scratch2) (fun x : Fin 3 × Fin 4 => (slotR x.1 x.2).set) slotR_disj slotR_cov (m _))
    show BIBase.Entails (slAny (F := F) c true x.1 x.2) _
    unfold slAny sl ownsTc owns
    iintro ⟨%X, %f, -, H⟩; iexists f
    rw [show (slotR x.1 x.2).set = (slot4 true x.1 x.2).view.set from (View.set_slice_whole cc0_scratch2 _).symm]; iexact H
  | false =>
    refine BI.Entails.trans (bigSep_mono fun x _ => ?_) (Ring.pointsTo_blocks_join_exists (ℓ := (c : Thread nD τ).loc cc0_scratch3) (fun x : Fin 3 × Fin 4 => (slotR x.1 x.2).set) slotR_disj slotR_cov (m _))
    show BIBase.Entails (slAny (F := F) c false x.1 x.2) _
    unfold slAny sl ownsTc owns
    iintro ⟨%X, %f, -, H⟩; iexists f
    rw [show (slotR x.1 x.2).set = (slot4 false x.1 x.2).view.set from (View.set_slice_whole cc0_scratch3 _).symm]; iexact H

end Cert.KernelIdealProof

end
-- ==== Proof.Max.lean ====
/-
# The exchange of the local maxima

Each device hands the three others the largest absolute value of its rows, from one buffer at three shares, and waits
for theirs.
-/
module

public import proofs.«01_k».proof.Proof.Slots

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

variable {α : Type} {T : T4} {n : ℕ}

/-! ## Order and bracketing of separating conjunctions -/

instance sep_commutative : _root_.Std.Commutative (α := sProp 𝕄) BIBase.sep :=
  ⟨fun P Q => _root_.Std.Commutative.comm (op := fun P Q : sProp 𝕄 => BI.sep P Q) P Q⟩
instance sep_associative : _root_.Std.Associative (α := sProp 𝕄) BIBase.sep :=
  ⟨fun P Q R => _root_.Std.Associative.assoc (op := fun P Q : sProp 𝕄 => BI.sep P Q) P Q R⟩

/-! ## The local maximum's own buffers -/

/-- What the send buffer of the maximum holds, when nothing is known of it. -/
def aAny : sProp 𝕄 := iprop(∃ f, ((c : Thread nD τ).loc cc0_scratch4) ↦{fullShare} f)
def aHas (X : Vec F S8x128 .f32) : sProp 𝕄 := (((c : Thread nD τ).loc cc0_scratch4) ↦{fullShare} X)

theorem St_mono {A B : sProp 𝕄} (h : A ⊢ B) : St m ρ K c T n A ⊢ St m ρ K c T n B := by
  unfold St
  exact sep_mono_right (sep_mono_right (sep_mono_right (sep_mono_right h)))

theorem z2 : (![0, 0] : Fin 2 → ℕ) = fun _ => 0 := by decide
theorem z3 : (![0, 0, 0] : Fin 3 → ℕ) = fun _ => 0 := by decide

theorem st_aload_any {Q : α → sProp 𝕄} {B : sProp 𝕄} {r : LoadRect S8x128} {hl} {k : (r.shape.Idx → Elt F .f32) → Prog (TpuEff nD τ sig (Elt F) Λ₀ .tc) α}
    (h : ∀ v, St m ρ K c T n iprop(aAny c ∗ B) ⊢ WP c (k v) Q) :
    St m ρ K c T n iprop(aAny c ∗ B) ⊢ WP c (.op (.load aS r hl) k) Q := by
  unfold St aAny at h ⊢
  iintro ⟨#HR, HL, HO, HX, ⟨%f, H⟩, HB⟩
  iapply (wp_load 𝒱₀ (c : Thread nD τ) none Set.univ (m := aS) (Finset.subset_univ _)) $$ H; iintro H
  iapply (h _)
  isplitr; · iexact HR
  isplitl [HL]; · iexact HL
  isplitl [HO]; · iexact HO
  isplitl [HX]; · iexact HX
  isplitl [H]; · iexists f; iexact H
  iexact HB

theorem st_aload {Q : α → sProp 𝕄} {B : sProp 𝕄} {X : Vec F S8x128 .f32} {hl} {k : (S8x128.Idx → Elt F .f32) → Prog (TpuEff nD τ sig (Elt F) Λ₀ .tc) α}
    (h : St m ρ K c T n iprop(aHas c X ∗ B) ⊢ WP c (k X) Q) :
    St m ρ K c T n iprop(aHas c X ∗ B) ⊢ WP c (.op (.load aS (Rect.unit (s := S8x128) ![0, 0] S8x128.size inb_S8x128_S8x128_0_0).toLoadRect hl) k) Q := by
  unfold St aHas at h ⊢
  iintro ⟨#HR, HL, HO, HX, H, HB⟩
  iapply (wp_load 𝒱₀ (c : Thread nD τ) none Set.univ (m := aS) (Finset.subset_univ _)) $$ H; iintro H
  rw [show aS.view.readAt (Elt F) (Rect.unit (s := S8x128) ![0, 0] S8x128.size inb_S8x128_S8x128_0_0).toLoadRect X = X from
    Memref.readAt_unit_zero (Elt F) cc0_scratch4 z2 _ X]
  iapply h
  isplitr; · iexact HR
  isplitl [HL]; · iexact HL
  isplitl [HO]; · iexact HO
  isplitl [HX]; · iexact HX
  isplitl [H] <;> iassumption

theorem st_astore {Q : α → sProp 𝕄} {B : sProp 𝕄} {w : Vec F S8x128 .f32} {hx hm} {k : PUnit → Prog (TpuEff nD τ sig (Elt F) Λ₀ .tc) α}
    (h : St m ρ K c T n iprop(aHas c w ∗ B) ⊢ WP c (k ⟨⟩) Q) :
    St m ρ K c T n iprop(aAny c ∗ B) ⊢ WP c (.op (.store aS (Rect.unit (s := S8x128) ![0, 0] S8x128.size inb_S8x128_S8x128_0_0) w Finset.univ hx hm) k) Q := by
  unfold St at h ⊢; unfold aHas at h; unfold aAny
  iintro ⟨#HR, HL, HO, HX, ⟨%f, H⟩, HB⟩
  iapply (wp_store 𝒱₀ (c : Thread nD τ) none Set.univ (m := aS) (r := Rect.unit (s := S8x128) ![0, 0] S8x128.size inb_S8x128_S8x128_0_0) (Mk := Finset.univ) (S := Finset.univ) (Finset.subset_univ _)) $$ H; iintro H
  rw [show (aS.access (Rect.unit (s := S8x128) ![0, 0] S8x128.size inb_S8x128_S8x128_0_0)).write (Elt F) f w Finset.univ = w from
    Memref.write_access_unit_zero_univ (Elt F) cc0_scratch4 z2 _ f w]
  iapply h
  isplitr; · iexact HR
  isplitl [HL]; · iexact HL
  isplitl [HO]; · iexact HO
  isplitl [HX]; · iexact HX
  isplitl [H] <;> iassumption

/-- The rectangle of a landing slot, whatever its offset is written as. -/
theorem amR_of {off : Fin 3 → ℕ} {inb} (k : Fin 4) (h : off = ![k.val, 0, 0]) : Rect.unit (s := S4x8x128) off S1x8x128.size inb = amR k := by
  subst h; rfl
theorem amM_of {off : Fin 3 → ℕ} {inb} (k : Fin 4) (h : off = ![k.val, 0, 0]) :
    (aR.slice (Rect.unit (s := S4x8x128) off S1x8x128.size inb) (fun _ => rfl)).squeeze S8x128 squeezes_S1x8x128_S8x128 = amM k := by
  subst h; rfl

theorem st_rload_any {Q : α → sProp 𝕄} {B : sProp 𝕄} (k₀ : Fin 4) {off : Fin 3 → ℕ} {inb} {hl} (ho : off = ![k₀.val, 0, 0]) {k : (S1x8x128.Idx → Elt F .f32) → Prog (TpuEff nD τ sig (Elt F) Λ₀ .tc) α}
    (h : ∀ v, St m ρ K c T n iprop(amAny c k₀ ∗ B) ⊢ WP c (k v) Q) :
    St m ρ K c T n iprop(amAny c k₀ ∗ B) ⊢ WP c (.op (.load aR (Rect.unit (s := S4x8x128) off S1x8x128.size inb).toLoadRect hl) k) Q := by
  subst ho
  unfold St amAny am ownsTc owns at h ⊢
  iintro ⟨#HR, HL, HO, HX, ⟨%X, %f, %hf, H⟩, HB⟩
  iapply (wp_load_rect 𝒱₀ (c : Thread nD τ) none Set.univ (m := aR) (r := amR k₀) (S := (am3 k₀).view.set) (Finset.Subset.refl _)) $$ H; iintro H
  iapply (h _)
  isplitr; · iexact HR
  isplitl [HL]; · iexact HL
  isplitl [HO]; · iexact HO
  isplitl [HX]; · iexact HX
  isplitl [H]
  · iexists X; iexists f
    isplitr; · ipureintro; exact hf
    iexact H
  iexact HB

theorem st_rstore {Q : α → sProp 𝕄} {B : sProp 𝕄} (k₀ : Fin 4) {off : Fin 3 → ℕ} {inb} {w : Vec F S1x8x128 .f32} {hx hm} (ho : off = ![k₀.val, 0, 0]) {k : PUnit → Prog (TpuEff nD τ sig (Elt F) Λ₀ .tc) α}
    (h : St m ρ K c T n iprop(am c k₀ w ∗ B) ⊢ WP c (k ⟨⟩) Q) :
    St m ρ K c T n iprop(amAny c k₀ ∗ B) ⊢ WP c (.op (.store aR (Rect.unit (s := S4x8x128) off S1x8x128.size inb) w Finset.univ hx hm) k) Q := by
  subst ho
  unfold St at h ⊢; unfold am ownsTc owns at h; unfold amAny am ownsTc owns
  iintro ⟨#HR, HL, HO, HX, ⟨%X, %f, %hf, H⟩, HB⟩
  iapply (wp_store 𝒱₀ (c : Thread nD τ) none Set.univ (m := aR) (r := amR k₀) (Mk := Finset.univ) (S := (am3 k₀).view.set) (Finset.Subset.refl _)) $$ H; iintro H
  iapply h
  isplitr; · iexact HR
  isplitl [HL]; · iexact HL
  isplitl [HO]; · iexact HO
  isplitl [HX]; · iexact HX
  isplitl [H]
  · iexists ((aR.access (amR k₀)).write (Elt F) f w Finset.univ)
    isplitr; · ipureintro; exact View.read_write_univ (Val := Elt F) (v := aR.access (amR k₀)) f w
    iexact H
  iexact HB

/-- The send buffer at its three shares. -/
theorem aHas_split (X : Vec F S8x128 .f32) : aHas c X ⊢ iprop(amOut c (shr 0) X ∗ amOut c (shr 1) X ∗ amOut c (shr 2) X) := by
  unfold aHas amOut ownsTc
  rw [owns_whole, owns_whole, owns_whole]
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1]; · iexact H1
  iexact H2
theorem aHas_join (X : Vec F S8x128 .f32) : iprop(amOut c (shr 0) X ∗ amOut c (shr 1) X ∗ amOut c (shr 2) X) ⊢ aHas c X := by
  unfold aHas amOut ownsTc
  rw [owns_whole, owns_whole, owns_whole]
  iintro ⟨H0, H1, H2⟩
  iapply (pointsTo_share (PosShare.mem_left_op_right fullShare)).2
  isplitl [H0]; · iexact H0
  iapply (pointsTo_share (PosShare.mem_left_op_right fullShare.right)).2
  isplitl [H1]; · iexact H1
  iexact H2

/-! ## The exchanges -/

/-- What sending maximum `k` takes of tokens and position; the maximum sent; its source back. -/
def mkit (k : Fin 3) : sProp 𝕄 :=
  iprop(atPos ER (kcell (c, kAs k)) 0 ∅ 0 ∗ dutyTok ER (kcell (c, kAs k)) 0 false ∗ dutyTok ER (kcell (rot (k.val + 1) c, kAr c)) 0 false)
def mfly (k : Fin 3) : sProp 𝕄 := iprop(atPos ER (kcell (c, kAs k)) 0 ∅ 0 ∗ cred (tallyAt (kcell (c, kAs k)) () N'))
def mdon (k : Fin 3) : sProp 𝕄 := atPos ER (kcell (c, kAs k)) (0 + 1) ∅ 0
/-- The maximum of the device `k` further not waited for yet; waited for. -/
def mdue (k : Fin 3) : sProp 𝕄 := iprop(atPos ER (kcell (c, kAr (rot (k.val + 1) c))) 0 ∅ 0 ∗ cred (tallyAt (kcell (c, kAr (rot (k.val + 1) c))) () N'))
def mgot (k : Fin 3) : sProp 𝕄 := atPos ER (kcell (c, kAr (rot (k.val + 1) c))) (0 + 1) ∅ 0
/-- What sending maximum `k` takes. -/
def msrc (k : Fin 3) : sProp 𝕄 := iprop(amOut c (shr k) (fun _ => amx m ρ c) ∗ amAny (rot (k.val + 1) c) c ∗ mkit (F := F) c k)
/-- The landing slot of the device `k` further, filled. -/
def amIn (k : Fin 3) : sProp 𝕄 := am c (rot (k.val + 1) c) (fun _ => amx m ρ (rot (k.val + 1) c))

theorem rot_ne : ∀ (k : Fin 3) (c : Dev nD), c ≠ rot (k.val + 1) c := by decide
theorem rot_ne' : ∀ (k : Fin 3) (c : Dev nD), rot (k.val + 1) c ≠ c := by decide

theorem obs_end : obs.drop 29 = [] := rfl
theorem dut_kAr (k : Fin 3) : dutC c (kAr (rot (k.val + 1) c)) = {false} := if_neg (rot_ne' k c)
theorem dut_kAr' (k : Fin 3) : dutC (rot (k.val + 1) c) (kAr c) = {false} := if_neg (rot_ne k c)
theorem rest_kAr (k : Fin 3) : bigSep ((Rd (F := F) m ρ).duties (kcell (c, kAr (rot (k.val + 1) c))) 0 \ ∅) (fun d => (Rd (F := F) m ρ).payload (kcell (c, kAr (rot (k.val + 1) c))) 0 d)
    = amIn m ρ c k := by
  rw [rest_at m ρ (c, kAr (rot (k.val + 1) c)), dut_kAr, bigSep_singleton]; rfl
theorem am_credit (k : Fin 4) : (amM k).view.amount (csem (kAr k)) = N' := by
  have h : csem (kAr k) = .dma (⟨dmaNo (kAr k), dmaNo_lt _⟩ : Fin 58) := if_neg (by revert k; decide)
  rw [h]

theorem amM_set (k : Fin 4) : (amM k).view.set = (am3 k).view.set := View.set_reshape _ _

/-- What a copy of the maximum leaves in the slot it lands in. -/
theorem landed_max (k : Fin 4) (x : F .f32) (fs : aS.view.ty.Contents (Elt F)) (fd : (amM k).view.ty.Contents (Elt F)) (hfs : aS.view.read (Elt F) fs = fun _ => x) :
    (am3 k).view.read (Elt F) ((amM k).view.write (Elt F) fd (aS.view.read (Elt F) fs) Finset.univ) = fun _ => x := by
  have h := View.read_write_univ (Val := Elt F) (v := (amM k).view) fd (aS.view.read (Elt F) fs)
  funext i
  have h' := congrFun h ((Shape.reshapeEquiv (squeezes_S1x8x128_S8x128 : S1x8x128.Squeezes S8x128).numel_eq).symm i)
  have e : ∀ f : (amM k).view.ty.Contents (Elt F),
      (amM k).view.read (Elt F) f ((Shape.reshapeEquiv (squeezes_S1x8x128_S8x128 : S1x8x128.Squeezes S8x128).numel_eq).symm i) = (am3 k).view.read (Elt F) f i := fun f => by
    show (am3 k).view.read (Elt F) f (Shape.reshapeEquiv _ ((Shape.reshapeEquiv _).symm i)) = _
    rw [Equiv.apply_symm_apply]
  rw [e] at h'
  rw [h', hfs]

/-- A maximum sent. -/
theorem st_max_send {Q : α → sProp 𝕄} {B B₀ : sProp 𝕄} (k₀ : Fin 3) {dst : Memref sig .tc .vmem S8x128 .f32} {sS sR : SemLoc sig} {nd : Dev nD} {hsc h1 h2 h3}
    {k : PUnit → Prog (TpuEff nD τ sig (Elt F) Λ₀ .tc) α}
    (hn : nd = rot (k₀.val + 1) c) (hdst : dst = amM c) (hsS : sS = csem (kAs k₀)) (hsR : sR = csem (kAr c))
    (ho : obs.drop n = .max k₀ :: obs.drop (n + 1)) (hB : B₀ = iprop(msrc m ρ c k₀ ∗ B))
    (h : St m ρ K c T (n + 1) iprop(mfly c k₀ ∗ B) ⊢ WP c (k ⟨⟩) Q) :
    St m ρ K c T n B₀ ⊢ WP c (.op (.enqueueDma aS (.remote (nd : Thread nD τ) dst sS hsc) sR h1 h2 h3) k) Q := by
  subst hn hdst hsS hsR hB
  unfold St ow at h ⊢; unfold msrc mkit
  iintro ⟨#HR, HL, ⟨%W, HO⟩, HX, ⟨Hown, Htgt, Hat, Ht1, Ht2⟩, HB⟩
  unfold amOut amAny am ownsTc owns
  icases Hown with ⟨%fs, %hfs, Hown⟩
  icases Htgt with ⟨%X, %fd, -, Htgt⟩
  rw [ho]
  ihave Htgt := (Entails.of_eq (show ((am3 c).view.loc (rot (k₀.val + 1) c : Thread nD τ) ↦[(am3 c).view.set]{fullShare} fd : sProp 𝕄)
    = ((amM c).view.loc (rot (k₀.val + 1) c : Thread nD τ) ↦[(amM c).view.set]{fullShare} fd) from by rw [amM_set])) $$ Htgt
  iapply (Rounds.wp_send_pointsTo 𝒱₀ ER (Rd m ρ) (c : Thread nD τ) none (κ₁ := K (c, kAs k₀)) (κ₂ := K (rot (k₀.val + 1) c, kAr c))
    (r₁ := 0) (r₂ := 0) (d₁ := false) (d₂ := false) (fd := fd) (fs := fs) (q := shr k₀)
    (by rw [duties_at m ρ (c, kAs k₀)]; exact Finset.mem_singleton_self _)
    (by rw [duties_at m ρ (rot (k₀.val + 1) c, kAr c)]; rw [dut_kAr']; exact Finset.mem_singleton_self _)
    () () N' (am_credit c) (amount_at m ρ (c, kAs k₀) false) (amount_at m ρ (rot (k₀.val + 1) c, kAr c) false) (oweL c (obs.drop (n + 1))) rfl (W := W)
    (by rw [payload_at m ρ (c, kAs k₀)]
        show _ ⊢ amOut c (shr k₀) (fun _ => amx m ρ c)
        unfold amOut ownsTc owns
        iintro H; iexists fs; isplitr; · (ipureintro; exact hfs)
        iexact H)
    (by rw [payload_at m ρ (rot (k₀.val + 1) c, kAr c)]
        show _ ⊢ am (rot (k₀.val + 1) c) c (fun _ => amx m ρ c)
        unfold am ownsTc owns
        rw [amM_set]
        iintro H; iexists _; isplitr
        · ipureintro; exact landed_max c _ fs fd hfs
        iexact H)) $$ [Hown Htgt HO Ht1 Ht2]
  · isplitr; · iapply (inv_at m ρ K (c, kAs k₀)); iexact HR
    isplitr; · iapply (inv_at m ρ K (rot (k₀.val + 1) c, kAr c)); iexact HR
    isplitl [Hown]; · iexact Hown
    isplitl [Htgt]; · iexact Htgt
    isplitl [HO]; · iexact HO
    isplitl [Ht1]; · iexact Ht1
    isplitr; · iapply (reached_at m ρ K (c, kAs k₀)); iexact HR
    isplitl [Ht2]; · iexact Ht2
    iapply (reached_at m ρ K (rot (k₀.val + 1) c, kAr c)); iexact HR
  iintro ⟨Hc, HO⟩
  iapply h
  isplitr; · iexact HR
  isplitl [HL]; · iexact HL
  isplitl [HO]; · iexists W; iexact HO
  isplitl [HX]; · iexact HX
  isplitl [Hat Hc]
  · unfold mfly
    isplitl [Hat] <;> iassumption
  iexact HB

/-- The wait for the maximum of the device `k₀ + 1` further. -/
theorem st_max_recv {Q : α → sProp 𝕄} {B B₀ : sProp 𝕄} (k₀ : Fin 3) {q : DmaSem sig} {dst : Memref sig .tc .vmem S8x128 .f32} {h1 h2}
    {k : PUnit → Prog (TpuEff nD τ sig (Elt F) Λ₀ .tc) α}
    (hq : .dma q = csem (kAr (rot (k₀.val + 1) c))) (hN : dst.view.dmaCredit = N') (hB : B₀ = iprop(mdue c k₀ ∗ B))
    (h : St m ρ K c T 29 iprop(mgot c k₀ ∗ amIn m ρ c k₀ ∗ B) ⊢ WP c (k ⟨⟩) Q) :
    St m ρ K c T 29 B₀ ⊢ WP c (.op (.waitDma2 q aS dst h1 h2) k) Q := by
  subst hB
  unfold St ow at h ⊢; unfold mdue
  iintro ⟨#HR, HL, ⟨%W, HO⟩, HX, ⟨Hat, Hc⟩, HB⟩
  iapply (Rounds.wp_wait_rest_token 𝒱₀ ER (Rd m ρ) (c : Thread nD τ) none (κ := K (c, kAr (rot (k₀.val + 1) c))) (sm := csem (kAr (rot (k₀.val + 1) c))) (k' := N')
      (fun Kt => by rw [wpE_waitDma2_eq 𝒱₀ (c : Thread nD τ) none Set.univ, hN, hq]) (Set.mem_univ _) () (O := oweL c (obs.drop 29)) (W := W) (R := 0) (m := 0) (T := ∅)
      (by rw [expect_at m ρ (c, kAr (rot (k₀.val + 1) c)), Nat.zero_add]; rw [dut_kAr]; exact (Nat.one_mul N').symm)) $$ [Hc HO Hat]
  · isplitr; · iapply (inv_at m ρ K (c, kAr (rot (k₀.val + 1) c))); iexact HR
    isplitl [Hc]; · iexact Hc
    isplitl [HO]; · iexact HO
    isplitr; · iapply (mayWait_at c (kAr (rot (k₀.val + 1) c)) _ (fun o ho => by rw [obs_end] at ho; cases ho)); iapply (lev_at m ρ K); iexact HR
    iexact Hat
  iintro ⟨HO, Hat, -, Hpay⟩
  ihave Hpay := (Entails.of_eq (rest_kAr m ρ c k₀)) $$ Hpay
  iapply h
  isplitr; · iexact HR
  isplitl [HL]; · iexact HL
  isplitl [HO]; · iexists _; iexact HO
  isplitl [HX]; · iexact HX
  isplitl [Hat]; · unfold mgot; iexact Hat
  isplitl [Hpay] <;> iassumption

/-- The wait for a maximum's source to be back. -/
theorem st_max_back {Q : α → sProp 𝕄} {B B₀ : sProp 𝕄} (k₀ : Fin 3) {q : DmaSem sig} {src : Memref sig .tc .vmem S8x128 .f32} {h1 h2}
    {k : PUnit → Prog (TpuEff nD τ sig (Elt F) Λ₀ .tc) α}
    (hq : .dma q = csem (kAs k₀)) (hB : B₀ = iprop(mfly c k₀ ∗ B))
    (h : St m ρ K c T 29 iprop(mdon c k₀ ∗ amOut c (shr k₀) (fun _ => amx m ρ c) ∗ B) ⊢ WP c (k ⟨⟩) Q) :
    St m ρ K c T 29 B₀ ⊢ WP c (.op (.waitDma2 q src aS h1 h2) k) Q := by
  subst hB
  unfold St ow at h ⊢; unfold mfly
  iintro ⟨#HR, HL, ⟨%W, HO⟩, HX, ⟨Hat, Hc⟩, HB⟩
  iapply (Rounds.wp_wait_rest_token 𝒱₀ ER (Rd m ρ) (c : Thread nD τ) none (κ := K (c, kAs k₀)) (sm := csem (kAs k₀)) (k' := N')
      (fun Kt => by rw [wpE_waitDma2_eq 𝒱₀ (c : Thread nD τ) none Set.univ, show aS.view.dmaCredit = N' from rfl, hq]) (Set.mem_univ _) () (O := oweL c (obs.drop 29)) (W := W) (R := 0) (m := 0) (T := ∅)
      (by rw [expect_at m ρ (c, kAs k₀), Nat.zero_add]; exact (Nat.one_mul N').symm)) $$ [Hc HO Hat]
  · isplitr; · iapply (inv_at m ρ K (c, kAs k₀)); iexact HR
    isplitl [Hc]; · iexact Hc
    isplitl [HO]; · iexact HO
    isplitr; · iapply (mayWait_at c (kAs k₀) _ (fun o ho => by rw [obs_end] at ho; cases ho)); iapply (lev_at m ρ K); iexact HR
    iexact Hat
  iintro ⟨HO, Hat, -, Hpay⟩
  ihave Hpay := (Entails.of_eq ((rest_at m ρ (c, kAs k₀)).trans bigSep_singleton)) $$ Hpay
  ihave Hpay := (Entails.of_eq (show payC m ρ c (kAs k₀) false = amOut c (shr k₀) (fun _ => amx m ρ c) from rfl)) $$ Hpay
  iapply h
  isplitr; · iexact HR
  isplitl [HL]; · iexact HL
  isplitl [HO]; · iexists _; iexact HO
  isplitl [HX]; · iexact HX
  isplitl [Hat]; · unfold mdon; iexact Hat
  isplitl [Hpay] <;> iassumption

end Cert.KernelIdealProof

end
-- ==== Proof.Out.lean ====
/-
# The maxima exchanged and the output stored: parts 45 to 50 of the body
-/
module

public import proofs.«01_k».proof.Proof.Max

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

variable {α : Type} {T : T4} {n : ℕ}

/-! ## The output block -/

/-- The scale: the largest maximum over 127. -/
def scl : F .f32 := k0_pay75 (F := F) (amAll m ρ)
/-- A block of rows quantised and scaled back, as the kernel stores it. -/
def qz (s : F .f32) (v : FVec F S1024x256 .f32) : Vec F S1024x256 .bf16 := k0_pay80 (F := F) v s

/-- The place of a column block in the order of the stores, which is also its place in the output. -/
def ord (d : Bool) (j : Fin 4) : ℕ := (if d then 0 else 4) + j.val
theorem ord_inj : ∀ (d d' : Bool) (j j' : Fin 4), ord d j = ord d' j' → d = d' ∧ j = j' := by decide

/-- The output buffer with the first `n` column blocks written. -/
def outI (n : ℕ) : sProp 𝕄 :=
  iprop(∃ f, ⌜∀ (d : Bool) (j : Fin 4), ord d j < n → (oS.access (colR d j)).read (Elt F) f = qz (scl m ρ) (Y m ρ c d j)⌝
    ∗ ((c : Thread nD τ).loc cc0_stg2_0) ↦{fullShare} f)

theorem outI_zero : iprop(∃ f, ((c : Thread nD τ).loc cc0_stg2_0) ↦{fullShare} f) ⊢ outI m ρ c 0 := by
  unfold outI
  iintro ⟨%f, H⟩; iexists f
  isplitr; · ipureintro; exact fun d j h => absurd h (Nat.not_lt_zero _)
  iexact H

theorem colR_of {off : Fin 2 → ℕ} {inb} (d : Bool) (j : Fin 4) (h : off = ![0, (if d then 0 else 1024) + 256 * j.val]) : Rect.unit (s := S1024x2048) off S1024x256.size inb = colR d j := by
  subst h; rfl

theorem colR_disj (d d' : Bool) (j j' : Fin 4) (h : ¬(d = d' ∧ j = j')) : Disjoint (colR d j).set (colR d' j').set := by
  rw [Finset.disjoint_left]
  intro i hi hi'
  have h1 := Rect.mem_set_unit.mp hi 1
  have h2 := Rect.mem_set_unit.mp hi' 1
  change (if d then 0 else 1024) + 256 * j.val ≤ (i 1).val ∧ (i 1).val < (if d then 0 else 1024) + 256 * j.val + 256 at h1
  change (if d' then 0 else 1024) + 256 * j'.val ≤ (i 1).val ∧ (i 1).val < (if d' then 0 else 1024) + 256 * j'.val + 256 at h2
  have hj := j.isLt
  have hj' := j'.isLt
  refine h ⟨?_, Fin.ext ?_⟩
  · cases d <;> cases d' <;> first | rfl | (simp only [Bool.false_eq_true, if_true, if_false] at h1 h2; omega)
  · cases d <;> cases d' <;> simp only [Bool.false_eq_true, if_true, if_false] at h1 h2 <;> omega

theorem st_oload {Q : α → sProp 𝕄} {B : sProp 𝕄} {n' : ℕ} {r : LoadRect S1024x2048} {hl} {k : (r.shape.Idx → Elt F .bf16) → Prog (TpuEff nD τ sig (Elt F) Λ₀ .tc) α}
    (h : ∀ v, St m ρ K c T n iprop(outI m ρ c n' ∗ B) ⊢ WP c (k v) Q) :
    St m ρ K c T n iprop(outI m ρ c n' ∗ B) ⊢ WP c (.op (.load oS r hl) k) Q := by
  unfold St outI at h ⊢
  iintro ⟨#HR, HL, HO, HX, ⟨%f, %hf, H⟩, HB⟩
  iapply (wp_load 𝒱₀ (c : Thread nD τ) none Set.univ (m := oS) (Finset.subset_univ _)) $$ H; iintro H
  iapply (h _)
  isplitr; · iexact HR
  isplitl [HL]; · iexact HL
  isplitl [HO]; · iexact HO
  isplitl [HX]; · iexact HX
  isplitl [H]
  · iexists f
    isplitr; · ipureintro; exact hf
    iexact H
  iexact HB

theorem st_ostore {Q : α → sProp 𝕄} {B : sProp 𝕄} {n' : ℕ} (d : Bool) (j : Fin 4) {w : Vec F S1024x256 .bf16} {hx hm} {k : PUnit → Prog (TpuEff nD τ sig (Elt F) Λ₀ .tc) α}
    (hn : ord d j = n') (hw : w = qz (scl m ρ) (Y m ρ c d j)) (h : St m ρ K c T n iprop(outI m ρ c (n' + 1) ∗ B) ⊢ WP c (k ⟨⟩) Q) :
    St m ρ K c T n iprop(outI m ρ c n' ∗ B) ⊢ WP c (.op (.store oS (colR d j) w Finset.univ hx hm) k) Q := by
  subst hn hw
  unfold St outI at h ⊢
  iintro ⟨#HR, HL, HO, HX, ⟨%f, %hf, H⟩, HB⟩
  iapply (wp_store 𝒱₀ (c : Thread nD τ) none Set.univ (m := oS) (r := colR d j) (Mk := Finset.univ) (S := Finset.univ) (Finset.subset_univ _)) $$ H; iintro H
  iapply h
  isplitr; · iexact HR
  isplitl [HL]; · iexact HL
  isplitl [HO]; · iexact HO
  isplitl [HX]; · iexact HX
  isplitl [H]
  · iexists ((oS.access (colR d j)).write (Elt F) f (qz (scl m ρ) (Y m ρ c d j)) Finset.univ)
    isplitr
    · ipureintro
      intro d' j' h'
      by_cases he : d' = d ∧ j' = j
      · obtain ⟨rfl, rfl⟩ := he
        exact View.read_write_univ (Val := Elt F) (v := oS.access (colR d' j')) f _
      · rw [← hf d' j' (lt_of_le_of_ne (Nat.lt_succ_iff.mp h') fun e => he (ord_inj _ _ _ _ e))]
        refine View.read_congr fun i hi => View.write_of_not_mem _ _ _ fun hi' => ?_
        have hi₁ : i ∈ (colR d' j').set := by rw [← View.set_slice_whole cc0_stg2_0 (colR d' j')]; exact hi
        have hi₂ : i ∈ (colR d j).set := by rw [← View.set_slice_whole cc0_stg2_0 (colR d j)]; exact hi'
        exact Finset.disjoint_left.mp (colR_disj d' d j' j he) hi₁ hi₂
    iexact H
  iexact HB

/-! ## The whole landing buffer -/

/-- The landing buffer of the maxima, all four in. -/
def AM : sProp 𝕄 := (((c : Thread nD τ).loc cc0_scratch5) ↦{fullShare} amAll m ρ)

theorem rot_cover : ∀ c : Dev nD, (Finset.univ : Finset (Fin 4)) = {c, rot 1 c, rot 2 c, rot 3 c} := by decide
theorem rot_nodup : ∀ c : Dev nD, [c, rot 1 c, rot 2 c, rot 3 c].Nodup := by decide

/-- Over the four devices, as this device sees them. -/
theorem bigSep_rot (Φ : Fin 4 → sProp 𝕄) : bigSep Finset.univ Φ = iprop(Φ c ∗ Φ (rot 1 c) ∗ Φ (rot 2 c) ∗ Φ (rot 3 c)) := by
  have h1 : c ∉ ({rot 1 c, rot 2 c, rot 3 c} : Finset (Fin 4)) := by revert c; decide
  have h2 : rot 1 c ∉ ({rot 2 c, rot 3 c} : Finset (Fin 4)) := by revert c; decide
  have h3 : rot 2 c ∉ ({rot 3 c} : Finset (Fin 4)) := by revert c; decide
  rw [rot_cover c, bigSep_insert h1, bigSep_insert h2, bigSep_insert h3, bigSep_singleton]; rfl

theorem AM_in : iprop(am c c (fun _ => amx m ρ c) ∗ amIn m ρ c 0 ∗ amIn m ρ c 1 ∗ amIn m ρ c 2) ⊢ AM m ρ c :=
  (Entails.of_eq (bigSep_rot c (fun k => am c k (fun _ => amx m ρ k))).symm).trans (am_join m ρ c)

theorem st_rload_all {Q : α → sProp 𝕄} {B : sProp 𝕄} {hl} {k : (S4x8x128.Idx → Elt F .f32) → Prog (TpuEff nD τ sig (Elt F) Λ₀ .tc) α}
    (h : St m ρ K c T n iprop(AM m ρ c ∗ B) ⊢ WP c (k (amAll m ρ)) Q) :
    St m ρ K c T n iprop(AM m ρ c ∗ B) ⊢ WP c (.op (.load aR (Rect.unit (s := S4x8x128) ![0, 0, 0] S4x8x128.size inb_S4x8x128_S4x8x128_0_0_0).toLoadRect hl) k) Q := by
  unfold St AM at h ⊢
  iintro ⟨#HR, HL, HO, HX, H, HB⟩
  iapply (wp_load 𝒱₀ (c : Thread nD τ) none Set.univ (m := aR) (Finset.subset_univ _)) $$ H; iintro H
  rw [show aR.view.readAt (Elt F) (Rect.unit (s := S4x8x128) ![0, 0, 0] S4x8x128.size inb_S4x8x128_S4x8x128_0_0_0).toLoadRect (amAll m ρ) = amAll m ρ from
    Memref.readAt_unit_zero (Elt F) cc0_scratch5 z3 _ (amAll m ρ)]
  iapply h
  isplitr; · iexact HR
  isplitl [HL]; · iexact HL
  isplitl [HO]; · iexact HO
  isplitl [HX]; · iexact HX
  isplitl [H] <;> iassumption

/-! ## The semaphores -/

theorem sem7_eq : ∀ c : Dev nD, SemLoc.dma (sig := sig) ((cc0_scratch11.slice (Rect.unit (s := S4) (k0_off7 c) S1.size (k0_off7_inb c))).squeeze S_ squeezes_S1_S_).sem = csem (kAr c) := by
  decide +kernel
theorem sem9_eq : ∀ (c : Dev nD) (k : Fin 3), SemLoc.dma (sig := sig) ((cc0_scratch11.slice (Rect.unit (s := S4) (k0_off9 c (BitVec.ofNat 32 (1 + k.val))) S1.size (k0_off9_inb c k))).squeeze S_ squeezes_S1_S_).sem = csem (kAr (rot (k.val + 1) c)) := by
  decide +kernel

/-! ## The parts -/

/-- What the maxima take before their exchange. -/
def B45 : sProp 𝕄 :=
  iprop(aAny c ∗ amAny c c ∗ amAny (rot 1 c) c ∗ amAny (rot 2 c) c ∗ amAny (rot 3 c) c ∗ mkit c 0 ∗ mkit c 1 ∗ mkit c 2 ∗ mdue c 0 ∗ mdue c 1 ∗ mdue c 2 ∗ outI m ρ c 0)
def B46 : sProp 𝕄 :=
  iprop(mfly c 0 ∗ msrc m ρ c 1 ∗ msrc m ρ c 2 ∗ am c c (fun _ => amx m ρ c) ∗ mdue c 0 ∗ mdue c 1 ∗ mdue c 2 ∗ outI m ρ c 0)
def B47 : sProp 𝕄 :=
  iprop(mdue c 0 ∗ mdue c 1 ∗ mdue c 2 ∗ am c c (fun _ => amx m ρ c) ∗ mfly c 0 ∗ mfly c 1 ∗ mfly c 2 ∗ outI m ρ c 0)
def B48 : sProp 𝕄 :=
  iprop(mdue c 2 ∗ am c c (fun _ => amx m ρ c) ∗ amIn m ρ c 0 ∗ amIn m ρ c 1 ∗ mgot c 0 ∗ mgot c 1 ∗ mfly c 0 ∗ mfly c 1 ∗ mfly c 2 ∗ outI m ρ c 0)
/-- What is left of the exchange while the output is stored. -/
def B49 : sProp 𝕄 :=
  iprop(AM m ρ c ∗ mgot c 0 ∗ mgot c 1 ∗ mgot c 2 ∗ mfly c 0 ∗ mfly c 1 ∗ mfly c 2)
def B50 : sProp 𝕄 :=
  iprop(AM m ρ c ∗ mgot c 0 ∗ mgot c 1 ∗ mgot c 2 ∗ mdon c 0 ∗ mdon c 1 ∗ mdon c 2 ∗ aHas c (fun _ => amx m ρ c) ∗ outI m ρ c 8)

theorem pay73_const (x : F .f32) : k0_pay73 (F := F) (fun _ => x) = fun _ => x := rfl
theorem pay74_const (x : F .f32) : k0_pay74 (F := F) (fun _ => x) = fun _ => x := rfl

theorem walk45 (v2 : BitVec 32) {Q : _ → sProp 𝕄} {B : sProp 𝕄} (h : ∀ v1231 v1232 v1233, St m ρ K c T 27 iprop(B46 m ρ c ∗ B) ⊢ Q ⟨v1231, v1232, v1233, 0#32⟩) :
    St m ρ K c T 26 iprop(B45 m ρ c ∗ B) ⊢ WP c (app (k0_part45 (F := F)) c v2 (fun _ => amx m ρ c)) Q := by
  unfold app; rw [k0_part45_eq_skeleton]; unfold k0_part45_skel
  simp only [Prog.lift, Prog.bind_op, Prog.bind_ret, Prog.pure_eq_ret]
  rw [pay73_const]
  unfold B45 B46 at *
  refine (St_mono m ρ K c (Entails.of_eq (sep_associative.assoc _ _ _))).trans ?_
  refine st_aload_any m ρ K c fun _ => ?_
  refine st_astore m ρ K c ?_
  refine st_aload m ρ K c ?_
  refine (St_mono m ρ K c (Entails.of_eq (show _ = iprop(amAny c c ∗ aHas c (fun _ => amx m ρ c) ∗ (amAny (rot 1 c) c ∗ amAny (rot 2 c) c ∗ amAny (rot 3 c) c ∗ mkit c 0 ∗ mkit c 1 ∗ mkit c 2 ∗ mdue c 0 ∗ mdue c 1 ∗ mdue c 2 ∗ outI m ρ c 0) ∗ B) from by ac_rfl))).trans ?_
  refine st_rload_any m ρ K c c (k0_off6_eq c) fun _ => ?_
  refine st_rstore m ρ K c c (k0_off6_eq c) ?_
  rw [pay74_const]
  refine (St_mono m ρ K c (sep_mono_right (sep_mono_left (aHas_split c _)))).trans ?_
  refine st_max_send m ρ K c 0 (dev27_eq c) (amM_of c (k0_off8_eq c)) rfl (sem7_eq c) rfl (show _ = iprop(msrc m ρ c 0 ∗ (msrc m ρ c 1 ∗ msrc m ρ c 2 ∗ am c c (fun _ => amx m ρ c) ∗ mdue c 0 ∗ mdue c 1 ∗ mdue c 2 ∗ outI m ρ c 0) ∗ B) from by unfold msrc; ac_rfl) ?_
  refine (St_mono m ρ K c (Entails.of_eq ?_)).trans (st_ret c (h _ _ _))
  ac_rfl

theorem walk46 (v2 v1231 v1232 : BitVec 32) (v1233 : BitVec 1) (c0 : BitVec 32) {Q : _ → sProp 𝕄} {B : sProp 𝕄} (h : ∀ v1267 v1269, St m ρ K c T 29 iprop(B47 m ρ c ∗ B) ⊢ Q ⟨v1267, v1269⟩) :
    St m ρ K c T 27 iprop(B46 m ρ c ∗ B) ⊢ WP c (app (k0_part46 (F := F)) c v2 v1231 v1232 v1233 c0) Q := by
  unfold app; rw [k0_part46_eq_skeleton]; unfold k0_part46_skel
  simp only [Prog.lift, Prog.bind_op, Prog.bind_ret, Prog.pure_eq_ret]
  unfold B46 B47 at *
  refine st_max_send m ρ K c 1 (dev28_eq c) (amM_of c (k0_off8_eq c)) rfl (sem7_eq c) rfl (show _ = iprop(msrc m ρ c 1 ∗ mfly c 0 ∗ (msrc m ρ c 2 ∗ am c c (fun _ => amx m ρ c) ∗ mdue c 0 ∗ mdue c 1 ∗ mdue c 2 ∗ outI m ρ c 0) ∗ B) from by ac_rfl) ?_
  refine st_max_send m ρ K c 2 (dev29_eq c) (amM_of c (k0_off8_eq c)) rfl (sem7_eq c) rfl (show _ = iprop(msrc m ρ c 2 ∗ mfly c 1 ∗ mfly c 0 ∗ (am c c (fun _ => amx m ρ c) ∗ mdue c 0 ∗ mdue c 1 ∗ mdue c 2 ∗ outI m ρ c 0) ∗ B) from by ac_rfl) ?_
  refine (St_mono m ρ K c (Entails.of_eq ?_)).trans (st_ret c (h _ _))
  ac_rfl

theorem walk47 (v2 v1267 v1269 : BitVec 32) {Q : _ → sProp 𝕄} {B : sProp 𝕄} (h : ∀ v1301 v1303, St m ρ K c T 29 iprop(B48 m ρ c ∗ B) ⊢ Q ⟨v1301, v1303⟩) :
    St m ρ K c T 29 iprop(B47 m ρ c ∗ B) ⊢ WP c (app (k0_part47 (F := F)) c v2 v1267 v1269) Q := by
  unfold app; rw [k0_part47_eq_skeleton]; unfold k0_part47_skel
  simp only [Prog.lift, Prog.bind_op, Prog.bind_ret, Prog.pure_eq_ret]
  unfold B47 B48 at *
  refine st_max_recv m ρ K c 0 (sem9_eq c 0) rfl (show _ = iprop(mdue c 0 ∗ (mdue c 1 ∗ mdue c 2 ∗ am c c (fun _ => amx m ρ c) ∗ mfly c 0 ∗ mfly c 1 ∗ mfly c 2 ∗ outI m ρ c 0) ∗ B) from by ac_rfl) ?_
  refine st_max_recv m ρ K c 1 (sem9_eq c 1) rfl (show _ = iprop(mdue c 1 ∗ (mgot c 0 ∗ amIn m ρ c 0) ∗ (mdue c 2 ∗ am c c (fun _ => amx m ρ c) ∗ mfly c 0 ∗ mfly c 1 ∗ mfly c 2 ∗ outI m ρ c 0) ∗ B) from by ac_rfl) ?_
  refine (St_mono m ρ K c (Entails.of_eq ?_)).trans (st_ret c (h _ _))
  ac_rfl

theorem walk48 (v1301 v1303 : BitVec 32) {Q : _ → sProp 𝕄} {B : sProp 𝕄} (h : St m ρ K c T 29 iprop(outI m ρ c 1 ∗ B49 m ρ c ∗ B) ⊢ Q ⟨scl m ρ, k0_pay77 (Y m ρ c true 1) (amAll m ρ), k0_pay78 (amAll m ρ)⟩) :
    St m ρ K c T 29 iprop(B48 m ρ c ∗ B) ⊢ WP c (app (k0_part48 (F := F)) c (Y m ρ c true 0) (Y m ρ c true 1) v1301 v1303) Q := by
  unfold app; rw [k0_part48_eq_skeleton]; unfold k0_part48_skel
  simp only [Prog.lift, Prog.bind_op, Prog.bind_ret, Prog.pure_eq_ret]
  unfold B48 B49 at *
  refine st_max_recv m ρ K c 2 (sem9_eq c 2) rfl (show _ = iprop(mdue c 2 ∗ (am c c (fun _ => amx m ρ c) ∗ amIn m ρ c 0 ∗ amIn m ρ c 1 ∗ mgot c 0 ∗ mgot c 1 ∗ mfly c 0 ∗ mfly c 1 ∗ mfly c 2 ∗ outI m ρ c 0) ∗ B) from by ac_rfl) ?_
  refine (St_mono m ρ K c (Entails.of_eq (show _ = iprop((am c c (fun _ => amx m ρ c) ∗ amIn m ρ c 0 ∗ amIn m ρ c 1 ∗ amIn m ρ c 2) ∗ (outI m ρ c 0 ∗ mgot c 0 ∗ mgot c 1 ∗ mgot c 2 ∗ mfly c 0 ∗ mfly c 1 ∗ mfly c 2) ∗ B) from by ac_rfl))).trans ?_
  refine (St_mono m ρ K c (sep_mono_left (AM_in m ρ c))).trans ?_
  refine st_rload_all m ρ K c ?_
  refine (St_mono m ρ K c (Entails.of_eq (show _ = iprop(outI m ρ c 0 ∗ (AM m ρ c ∗ mgot c 0 ∗ mgot c 1 ∗ mgot c 2 ∗ mfly c 0 ∗ mfly c 1 ∗ mfly c 2) ∗ B) from by ac_rfl))).trans ?_
  refine st_oload m ρ K c fun _ => ?_
  refine st_ostore m ρ K c true 0 rfl rfl ?_
  exact st_ret c h

theorem walk49 {Q : _ → sProp 𝕄} {B : sProp 𝕄} (h : St m ρ K c T 29 iprop(outI m ρ c 5 ∗ B) ⊢ Q ⟨k0_pay83 (Y m ρ c false 1) (scl m ρ), Scalar.ofBits .f32 0x42FE0000#32, k0_pay84 (F := F)⟩) :
    St m ρ K c T 29 iprop(outI m ρ c 1 ∗ B) ⊢ WP c (app (k0_part49 (F := F)) (Y m ρ c false 0) (Y m ρ c false 1) (Y m ρ c true 2) (Y m ρ c true 3) (scl m ρ) (k0_pay77 (Y m ρ c true 1) (amAll m ρ)) (k0_pay78 (amAll m ρ))) Q := by
  unfold app; rw [k0_part49_eq_skeleton]; unfold k0_part49_skel
  simp only [Prog.lift, Prog.bind_op, Prog.bind_ret, Prog.pure_eq_ret]
  refine st_oload m ρ K c fun _ => ?_
  refine st_ostore m ρ K c true 1 rfl rfl ?_
  refine st_oload m ρ K c fun _ => ?_
  refine st_ostore m ρ K c true 2 rfl rfl ?_
  refine st_oload m ρ K c fun _ => ?_
  refine st_ostore m ρ K c true 3 rfl rfl ?_
  refine st_oload m ρ K c fun _ => ?_
  refine st_ostore m ρ K c false 0 rfl rfl ?_
  exact st_ret c h

theorem walk50 {Q : _ → sProp 𝕄} {B : sProp 𝕄} (h : St m ρ K c T 29 iprop(outI m ρ c 8 ∗ B) ⊢ Q ⟨⟩) :
    St m ρ K c T 29 iprop(outI m ρ c 5 ∗ B) ⊢ WP c (app (k0_part50 (F := F)) (Y m ρ c false 2) (Y m ρ c false 3) (scl m ρ) (k0_pay83 (Y m ρ c false 1) (scl m ρ)) (Scalar.ofBits .f32 0x42FE0000#32) (k0_pay84 (F := F))) Q := by
  unfold app; rw [k0_part50_eq_skeleton]; unfold k0_part50_skel
  simp only [Prog.lift, Prog.bind_op, Prog.bind_ret, Prog.pure_eq_ret]
  refine st_oload m ρ K c fun _ => ?_
  refine st_ostore m ρ K c false 1 rfl rfl ?_
  refine st_oload m ρ K c fun _ => ?_
  refine st_ostore m ρ K c false 2 rfl rfl ?_
  refine st_oload m ρ K c fun _ => ?_
  refine st_ostore m ρ K c false 3 rfl rfl ?_
  exact st_ret c h

end Cert.KernelIdealProof

end
-- ==== Proof.Deal.lean ====
/-
# What a device is dealt, and what it gives back

The cells of a device listed, its positions, its credit and the tokens of the duties it pays, and the four lanes made of
them; at the end, every cell closed.
-/
module

public import proofs.«01_k».proof.Proof.Out

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

/-! ## The cells of a device, listed -/

/-- The block, the direction and the hop of a hop's two cells. -/
abbrev Hop : Type := Fin 4 × Bool × Fin 3

def hopE : Hop ≃ Bool × Fin 3 × Fin 4 :=
  ⟨fun y => (y.2.1, y.2.2, y.1), fun z => (z.2.2, z.1, z.2.1), fun _ => rfl, fun _ => rfl⟩

omit [FloatOps F] in
theorem bigSep_bool (Φ : Bool → sProp 𝕄) : bigSep Finset.univ Φ = iprop(Φ false ∗ Φ true) :=
  bigSep_univ_eq_bigSepL [false, true] (by decide) (by decide) Φ
omit [FloatOps F] in
theorem bigSep_3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_hops (Φ : Bool × Bool × Fin 3 × Fin 4 → sProp 𝕄) :
    bigSep Finset.univ Φ = bigSep Finset.univ fun y : Hop => iprop(Φ (false, y.2.1, y.2.2, y.1) ∗ Φ (true, y.2.1, y.2.2, y.1)) := by
  rw [bigSep_univ_prod, bigSep_bool, bigSep_univ_equiv hopE (fun z => Φ (false, z)), bigSep_univ_equiv hopE (fun z => Φ (true, z)), bigSep_sep']
  rfl

/-- A device's cells but the barrier's. -/
abbrev Own : Type := (Fin 3 ⊕ Fin 4) ⊕ (Bool × Bool × Fin 3 × Fin 4)
def kown : Own → Cid
  | .inl k => .inl (.inr k)
  | .inr y => .inr y

omit [FloatOps F] in
theorem bigSep_own (Φ : Cid → sProp 𝕄) : bigSep Finset.univ Φ = iprop(Φ kBar ∗ bigSep Finset.univ fun k : Own => Φ (kown k)) := by
  rw [bigSep_univ_sum, bigSep_univ_sum, bigSep_univ_of_subsingleton (), bigSep_univ_sum (fun k : Own => Φ (kown k))]
  exact sep_associative.assoc _ _ _

theorem bigSep_cid (Φ : Cid → sProp 𝕄) : bigSep Finset.univ Φ
    = iprop(Φ kBar ∗ (Φ (kAs 0) ∗ Φ (kAs 1) ∗ Φ (kAs 2)) ∗ (Φ (kAr c) ∗ Φ (kAr (rot 1 c)) ∗ Φ (kAr (rot 2 c)) ∗ Φ (kAr (rot 3 c)))
      ∗ bigSep Finset.univ fun y : Hop => iprop(Φ (kSnd y.2.1 y.2.2 y.1) ∗ Φ (kRcv y.2.1 y.2.2 y.1))) := by
  rw [bigSep_univ_sum, bigSep_univ_sum, bigSep_univ_of_subsingleton (), bigSep_univ_sum, bigSep_3, bigSep_rot (F := F) c, bigSep_hops]
  exact (sep_associative.assoc _ _ _).trans (congrArg (BIBase.sep _) (sep_associative.assoc _ _ _))

/-! ## The deal -/

/-- How many payments device `c`'s cell `k` receives by name. -/
def cnt (c : Dev nD) : Cid → ℕ
  | .inl (.inl _) => 2
  | .inl (.inr (.inl _)) => 0
  | .inl (.inr (.inr k)) => if k = c then 0 else 1
  | .inr (x, _) => if x then 1 else 0

/-- The duty device `c` pays in the place of its cell `k`'s duty `b`: the one of the same kind it reaches. -/
def payTo (x : (Dev nD × Cid) × Bool) : (Dev nD × Cid) × Bool :=
  match x.1.2 with
  | .inl (.inl _) => ((fwd (!x.2) x.1.1, kBar), x.2)
  | .inl (.inr (.inl k)) => x
  | .inl (.inr (.inr k)) => ((k, kAr x.1.1), x.2)
  | .inr (false, _) => x
  | .inr (true, d, s, j) => ((fwd d x.1.1, kRcv d s j), x.2)
def payFrom (x : (Dev nD × Cid) × Bool) : (Dev nD × Cid) × Bool :=
  match x.1.2 with
  | .inl (.inl _) => ((fwd x.2 x.1.1, kBar), x.2)
  | .inl (.inr (.inl k)) => x
  | .inl (.inr (.inr k)) => ((k, kAr x.1.1), x.2)
  | .inr (false, _) => x
  | .inr (true, d, s, j) => ((bwd d x.1.1, kRcv d s j), x.2)
def payE : (Dev nD × Cid) × Bool ≃ (Dev nD × Cid) × Bool where
  toFun := payTo
  invFun := payFrom
  left_inv := by
    rintro ⟨⟨c, (_ | _ | k) | ⟨_ | _, d, s, j⟩⟩, b⟩
    · show ((fwd b (fwd (!b) c), kBar), b) = _; rw [fwd_bwd]
    · rfl
    · rfl
    · rfl
    · show ((bwd d (fwd d c), kRcv d s j), b) = _; rw [bwd_fwd]
  right_inv := by
    rintro ⟨⟨c, (_ | _ | k) | ⟨_ | _, d, s, j⟩⟩, b⟩
    · show ((fwd (!b) (fwd b c), kBar), b) = _; rw [fwd_nfwd]
    · rfl
    · rfl
    · rfl
    · show ((fwd d (bwd d c), kRcv d s j), b) = _; rw [fwd_bwd]

/-- What device `c` is dealt at its cell `k`. -/
def tokC (k : Cid) (b : Bool) : sProp 𝕄 := dutyTok ER (kcell (payTo ((c, k), b)).1) 0 b
def lin (k : Cid) : sProp 𝕄 :=
  iprop(atPos ER (kcell (c, k)) 0 ∅ 0 ∗ cred (tallyAt (kcell (c, k)) () (cnt c k * amtC k)) ∗ tokC (F := F) c k false ∗ tokC (F := F) c k true)

theorem tokC_snd (d : Bool) (s : Fin 3) (j : Fin 4) (b : Bool) : tokC (F := F) c (kSnd d s j) b = dutyTok ER (kcell (c, kSnd d s j)) 0 b := rfl
theorem tokC_rcv (d : Bool) (s : Fin 3) (j : Fin 4) (b : Bool) : tokC (F := F) c (kRcv d s j) b = dutyTok ER (kcell (fwd d c, kRcv d s j)) 0 b := rfl
theorem tokC_kAs (k : Fin 3) (b : Bool) : tokC (F := F) c (kAs k) b = dutyTok ER (kcell (c, kAs k)) 0 b := rfl
theorem tokC_kAr (k : Fin 4) (b : Bool) : tokC (F := F) c (kAr k) b = dutyTok ER (kcell (k, kAr c)) 0 b := rfl

/-- A hop's two kits. -/
def kits (c : Dev nD) (y : Hop) : sProp 𝕄 := iprop(piece m ρ c y.1 (.kit y.2.1 y.2.2) ∗ piece m ρ c y.1 (.due y.2.1 y.2.2))

theorem lin_hop (y : Hop) : iprop(lin (F := F) c (kSnd y.2.1 y.2.2 y.1) ∗ lin (F := F) c (kRcv y.2.1 y.2.2 y.1)) ⊢ kits m ρ c y := by
  obtain ⟨j, d, s⟩ := y
  dsimp only
  unfold lin
  rw [tokC_snd, tokC_rcv]
  rw [show cnt c (kRcv d s j) * amtC (kRcv d s j) = N from Nat.one_mul N]
  iintro ⟨⟨Ha, -, Ht, -⟩, Hb, Hc, Hu, -⟩
  unfold kits
  isplitl [Ha Ht Hu]
  · iapply (Entails.of_eq (show piece m ρ c j (.kit d s) = iprop(atPos ER (kcell (c, kSnd d s j)) 0 ∅ 0 ∗ dutyTok ER (kcell (c, kSnd d s j)) 0 false ∗ dutyTok ER (kcell (fwd d c, kRcv d s j)) 0 false) from rfl).symm)
    isplitl [Ha]; · iexact Ha
    isplitl [Ht]; · iexact Ht
    iexact Hu
  · iapply (Entails.of_eq (show piece m ρ c j (.due d s) = iprop(atPos ER (kcell (c, kRcv d s j)) 0 ∅ 0 ∗ cred (tallyAt (kcell (c, kRcv d s j)) () N)) from rfl).symm)
    isplitl [Hb] <;> iassumption

/-- What the barrier takes of tokens, position and credit. -/
def barKit : sProp 𝕄 :=
  iprop(atPos ER (kcell (c, kBar)) 0 ∅ 0 ∗ cred (tallyAt (kcell (c, kBar)) () 2) ∗ dutyTok ER (kcell (fwd true c, kBar)) 0 false ∗ dutyTok ER (kcell (fwd false c, kBar)) 0 true)

theorem lin_bar : lin (F := F) c kBar ⊢ barKit c := by
  unfold lin barKit
  exact BI.Entails.refl _

/-- The kits of one block. -/
def ks (c : Dev nD) (j : Fin 4) : sProp 𝕄 := bigSep Finset.univ fun z : Bool × Fin 3 => kits m ρ c (j, z)

theorem deal : (bigSep Finset.univ fun k : Cid => lin (F := F) c k)
    ⊢ iprop(barKit c ∗ (mkit c 0 ∗ mkit c 1 ∗ mkit c 2) ∗ (mdue c 0 ∗ mdue c 1 ∗ mdue c 2) ∗ atPos ER (kcell (c, kAr c)) 0 ∅ 0
      ∗ (ks m ρ c 0 ∗ ks m ρ c 1 ∗ ks m ρ c 2 ∗ ks m ρ c 3)) := by
  rw [bigSep_cid c]
  have hh : (bigSep Finset.univ fun y : Hop => iprop(lin (F := F) c (kSnd y.2.1 y.2.2 y.1) ∗ lin (F := F) c (kRcv y.2.1 y.2.2 y.1))) ⊢ iprop(ks m ρ c 0 ∗ ks m ρ c 1 ∗ ks m ρ c 2 ∗ ks m ρ c 3) := by
    have he : bigSep Finset.univ (kits m ρ c) = iprop(ks m ρ c 0 ∗ ks m ρ c 1 ∗ ks m ρ c 2 ∗ ks m ρ c 3) := by
      rw [bigSep_univ_prod, bigSep_4]; rfl
    rw [← he]
    exact bigSep_mono fun y _ => lin_hop m ρ c y
  have hAr : ∀ k : Fin 3, lin (F := F) c (kAr (rot (k.val + 1) c)) ⊢ iprop(mdue c k ∗ dutyTok ER (kcell (rot (k.val + 1) c, kAr c)) 0 false) := fun k => by
    unfold lin mdue
    rw [tokC_kAr]
    rw [show cnt c (kAr (rot (k.val + 1) c)) * amtC (kAr (rot (k.val + 1) c)) = N' from by
      rw [show cnt c (kAr (rot (k.val + 1) c)) = 1 from if_neg (rot_ne' k c)]; exact Nat.one_mul N']
    iintro ⟨Ha, Hc, Ht, -⟩
    isplitl [Ha Hc]
    · isplitl [Ha] <;> iassumption
    iexact Ht
  have hAs : ∀ k : Fin 3, iprop(lin (F := F) c (kAs k) ∗ dutyTok ER (kcell (rot (k.val + 1) c, kAr c)) 0 false) ⊢ mkit c k := fun k => by
    unfold lin mkit
    rw [tokC_kAs]
    iintro ⟨⟨Ha, -, Ht, -⟩, Hu⟩
    isplitl [Ha]; · iexact Ha
    isplitl [Ht] <;> iassumption
  iintro ⟨Hb, ⟨Hs0, Hs1, Hs2⟩, ⟨Hr, Hr0, Hr1, Hr2⟩, Hh⟩
  ihave Hr0 := (show lin (F := F) c (kAr (rot 1 c)) ⊢ _ from hAr 0) $$ Hr0
  ihave Hr1 := (show lin (F := F) c (kAr (rot 2 c)) ⊢ _ from hAr 1) $$ Hr1
  ihave Hr2 := (show lin (F := F) c (kAr (rot 3 c)) ⊢ _ from hAr 2) $$ Hr2
  icases Hr0 with ⟨Hd0, Ht0⟩
  icases Hr1 with ⟨Hd1, Ht1⟩
  icases Hr2 with ⟨Hd2, Ht2⟩
  isplitl [Hb]; · iapply (lin_bar c); iexact Hb
  isplitl [Hs0 Hs1 Hs2 Ht0 Ht1 Ht2]
  · isplitl [Hs0 Ht0]
    · iapply (hAs 0); isplitl [Hs0] <;> iassumption
    isplitl [Hs1 Ht1]
    · iapply (hAs 1); isplitl [Hs1] <;> iassumption
    iapply (hAs 2); isplitl [Hs2] <;> iassumption
  isplitl [Hd0 Hd1 Hd2]
  · isplitl [Hd0]; · iexact Hd0
    isplitl [Hd1] <;> iassumption
  isplitl [Hr]
  · unfold lin; icases Hr with ⟨Hr, -⟩; iexact Hr
  iapply hh; iexact Hh

/-! ## The lanes made -/

/-- The slots a device gives its neighbour in direction `d`'s sender; the slots its own hops land in, before hop 2. -/
def give (d : Bool) (j : Fin 4) : sProp 𝕄 := iprop(slAny (F := F) c d 1 j ∗ slAny c d 2 j)
def take (d : Bool) (j : Fin 4) : sProp 𝕄 := iprop(tgt (F := F) c d 0 j ∗ tgt c d 1 j)
def fwd0 (j : Fin 4) : sProp 𝕄 := if j = 0 then amAny (F := F) (fwd true c) (bwd true c) else iprop(emp)

theorem lane_start (j : Fin 4) :
    iprop(ks m ρ c j ∗ slAny c true 0 j ∗ slAny c false 0 j ∗ take c true j ∗ take c false j ∗ fwd0 c j) ⊢ lane m ρ c j 0 := by
  have h1 : ks m ρ c j = iprop(kits m ρ c (j, true, 0) ∗ kits m ρ c (j, true, 1) ∗ kits m ρ c (j, true, 2) ∗ kits m ρ c (j, false, 0) ∗ kits m ρ c (j, false, 1) ∗ kits m ρ c (j, false, 2)) :=
    bigSep_univ_eq_bigSepL [(true, 0), (true, 1), (true, 2), (false, 0), (false, 1), (false, 2)] (by decide) (by decide) _
  have h2 : fwd0 (F := F) c j ⊢ sepL (piece m ρ c j) (if j = 0 then [.fw] else []) := by
    unfold fwd0; split
    · iintro H
      iapply (Entails.of_eq (show sepL (piece m ρ c j) [.fw] = iprop(amAny (fwd true c) (bwd true c) ∗ emp) from rfl).symm)
      isplitl [H]; · iexact H
      iempintro
    · exact BI.Entails.refl _
  have h3 : iprop(ks m ρ c j ∗ slAny c true 0 j ∗ slAny c false 0 j ∗ take c true j ∗ take c false j)
      ⊢ sepL (piece m ρ c j) [.kit true 0, .kit true 1, .kit true 2, .kit false 0, .kit false 1, .kit false 2,
    .due true 0, .due true 1, .due true 2, .due false 0, .due false 1, .due false 2,
    .any true 0, .any false 0, .tgt true 0, .tgt true 1, .tgt false 0, .tgt false 1] := by
    rw [h1]; unfold kits take
    iintro ⟨⟨⟨K0, D0⟩, ⟨K1, D1⟩, ⟨K2, D2⟩, ⟨K3, D3⟩, ⟨K4, D4⟩, ⟨K5, D5⟩⟩, A0, A1, ⟨T0, T1⟩, ⟨T2, T3⟩⟩
    iapply (Entails.of_eq (show sepL (piece m ρ c j) [.kit true 0, .kit true 1, .kit true 2, .kit false 0, .kit false 1, .kit false 2,
      .due true 0, .due true 1, .due true 2, .due false 0, .due false 1, .due false 2,
      .any true 0, .any false 0, .tgt true 0, .tgt true 1, .tgt false 0, .tgt false 1]
      = iprop(piece m ρ c j (.kit true 0) ∗ piece m ρ c j (.kit true 1) ∗ piece m ρ c j (.kit true 2) ∗ piece m ρ c j (.kit false 0) ∗ piece m ρ c j (.kit false 1) ∗ piece m ρ c j (.kit false 2)
        ∗ piece m ρ c j (.due true 0) ∗ piece m ρ c j (.due true 1) ∗ piece m ρ c j (.due true 2) ∗ piece m ρ c j (.due false 0) ∗ piece m ρ c j (.due false 1) ∗ piece m ρ c j (.due false 2)
        ∗ slAny c true 0 j ∗ slAny c false 0 j ∗ tgt c true 0 j ∗ tgt c true 1 j ∗ tgt c false 0 j ∗ tgt c false 1 j ∗ emp) from rfl).symm)
    isplitl [K0]; · iexact K0
    isplitl [K1]; · iexact K1
    isplitl [K2]; · iexact K2
    isplitl [K3]; · iexact K3
    isplitl [K4]; · iexact K4
    isplitl [K5]; · iexact K5
    isplitl [D0]; · iexact D0
    isplitl [D1]; · iexact D1
    isplitl [D2]; · iexact D2
    isplitl [D3]; · iexact D3
    isplitl [D4]; · iexact D4
    isplitl [D5]; · iexact D5
    isplitl [A0]; · iexact A0
    isplitl [A1]; · iexact A1
    isplitl [T0]; · iexact T0
    isplitl [T1]; · iexact T1
    isplitl [T2]; · iexact T2
    isplitl [T3]; · iexact T3
    iempintro
  show _ ⊢ sepL (piece m ρ c j) (lane0 j)
  unfold lane0
  iintro ⟨H1, H2, H3, H4, H5, H6⟩
  iapply (append_sepL (piece m ρ c j) _ _)
  isplitr [H6]
  · iapply h3
    isplitl [H1]; · iexact H1
    isplitl [H2]; · iexact H2
    isplitl [H3]; · iexact H3
    isplitl [H4]; · iexact H4
    iexact H5
  · iapply h2; iexact H6

end Cert.KernelIdealProof

end
-- ==== Proof.Entry.lean ====
/-
# The start of the body: the scratch copies, the barrier, the first slot
-/
module

public import proofs.«01_k».proof.Proof.Deal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

/-! ## The first part -/

/-- The staged blocks. -/
def Stg : sProp 𝕄 := iprop((((c : Thread nD τ).loc cc0_stg0_0) ↦{fullShare} xstg m ρ c) ∗ (((c : Thread nD τ).loc cc0_stg1_0) ↦{fullShare} wstg m ρ c))
def xAny : sProp 𝕄 := iprop(∃ f, ((c : Thread nD τ).loc cc0_scratch0) ↦{fullShare} f)
def wAny : sProp 𝕄 := iprop(∃ f, ((c : Thread nD τ).loc cc0_scratch1) ↦{fullShare} f)
def xHas : sProp 𝕄 := (((c : Thread nD τ).loc cc0_scratch0) ↦{fullShare} xbv m ρ c)

theorem walk1 {Q : _ → sProp 𝕄} {B : sProp 𝕄} (h : ∀ v2 v13 v24, iprop(Stg m ρ c ∗ xHas m ρ c ∗ wAny c ∗ B) ⊢ Q ⟨c, v2, v13, v24, k0_pay2 (F := F) (wstg m ρ c)⟩) :
    iprop(Stg m ρ c ∗ xAny c ∗ wAny c ∗ B) ⊢ WP c (app (k0_part1 (F := F))) Q := by
  unfold app; rw [k0_part1_eq_skeleton]; unfold k0_part1_skel
  simp only [Prog.lift, Prog.bind_op, Prog.bind_ret, Prog.pure_eq_ret, wp_deviceId]
  unfold Stg xHas wAny at h; unfold Stg xAny wAny
  iintro ⟨⟨Hx, Hw⟩, ⟨%f, H⟩, ⟨%g, H'⟩, HB⟩
  iapply (wp_load 𝒱₀ (c : Thread nD τ) none Set.univ (m := xS) (Finset.subset_univ _)) $$ Hx; iintro Hx
  rw [show xS.view.readAt (Elt F) (Rect.unit (s := S4096x1024) ![0, 0] S4096x1024.size inb_S4096x1024_S4096x1024_0_0).toLoadRect (xstg m ρ c) = xstg m ρ c from
    Memref.readAt_unit_zero (Elt F) cc0_stg0_0 z2 _ _]
  iapply (wp_load 𝒱₀ (c : Thread nD τ) none Set.univ (m := xM) (Finset.subset_univ _)) $$ H; iintro H
  iapply (wp_store 𝒱₀ (c : Thread nD τ) none Set.univ (m := xM) (r := Rect.unit (s := S4096x1024) ![0, 0] S4096x1024.size inb_S4096x1024_S4096x1024_0_0) (Mk := Finset.univ) (Finset.subset_univ _)) $$ H; iintro H
  rw [show (xM.access (Rect.unit (s := S4096x1024) ![0, 0] S4096x1024.size inb_S4096x1024_S4096x1024_0_0)).write (Elt F) f (k0_pay1 (F := F) (xstg m ρ c)) Finset.univ = xbv m ρ c from
    Memref.write_access_unit_zero_univ (Elt F) cc0_scratch0 z2 _ f _]
  iapply (wp_load 𝒱₀ (c : Thread nD τ) none Set.univ (m := wS) (Finset.subset_univ _)) $$ Hw; iintro Hw
  rw [show wS.view.readAt (Elt F) (Rect.unit (s := S1024x2048) ![0, 0] S1024x2048.size inb_S1024x2048_S1024x2048_0_0).toLoadRect (wstg m ρ c) = wstg m ρ c from
    Memref.readAt_unit_zero (Elt F) cc0_stg1_0 z2 _ _]
  iapply (wp_load 𝒱₀ (c : Thread nD τ) none Set.univ (m := wM) (Finset.subset_univ _)) $$ H'; iintro H'
  iapply (st_ret c (h _ _ _))
  isplitl [Hx Hw]
  · isplitl [Hx] <;> iassumption
  isplitl [H]; · iexact H
  isplitl [H']; · iexists g; iexact H'
  iexact HB

/-! ## The barrier -/

theorem slots_give (d : Bool) : (bigSep Finset.univ fun x : Fin 3 × Fin 4 => slAny (F := F) c d x.1 x.2)
    = iprop((bigSep Finset.univ fun j : Fin 4 => slAny (F := F) c d 0 j) ∗ bigSep Finset.univ fun j : Fin 4 => give (F := F) c d j) := by
  unfold give
  rw [bigSep_univ_prod, bigSep_3, bigSep_sep']

theorem opp_eq : ∀ c : Dev nD, bwd true (fwd false c) = rot 2 c := by decide

/-- What device `c` pays its two neighbours' barriers with. -/
theorem pay_left : payC m ρ (fwd false c) kBar true
    = iprop((bigSep Finset.univ fun j : Fin 4 => give (F := F) c true j) ∗ amAny c (rot 3 c) ∗ amAny c (rot 2 c)) := by
  show iprop((bigSep Finset.univ fun j : Fin 4 => iprop(slAny (F := F) (fwd true (fwd false c)) true 1 j ∗ slAny (F := F) (fwd true (fwd false c)) true 2 j))
    ∗ amAny (F := F) (fwd true (fwd false c)) (fwd false c) ∗ amAny (F := F) (fwd true (fwd false c)) (bwd true (fwd false c))) = _
  rw [opp_eq, show fwd true (fwd false c) = c from fwd_bwd true c]; rfl
theorem pay_right : payC m ρ (fwd true c) kBar false
    = iprop((bigSep Finset.univ fun j : Fin 4 => give (F := F) c false j) ∗ amAny c (rot 1 c) ∗ emp) := by
  show iprop((bigSep Finset.univ fun j : Fin 4 => iprop(slAny (F := F) (fwd false (fwd true c)) false 1 j ∗ slAny (F := F) (fwd false (fwd true c)) false 2 j))
    ∗ amAny (F := F) (fwd false (fwd true c)) (fwd true c) ∗ emp) = _
  rw [show fwd false (fwd true c) = c from fwd_bwd false c]; rfl
/-- What it gets from them. -/
theorem rest_bar : bigSep ((Rd (F := F) m ρ).duties (kcell (c, kBar)) 0 \ ∅) (fun d => (Rd (F := F) m ρ).payload (kcell (c, kBar)) 0 d)
    = iprop(((bigSep Finset.univ fun j : Fin 4 => take (F := F) c false j) ∗ amAny (rot 3 c) c ∗ emp)
      ∗ (bigSep Finset.univ fun j : Fin 4 => take (F := F) c true j) ∗ amAny (rot 1 c) c ∗ fwd0 c 0) := by
  rw [rest_at m ρ (c, kBar)]
  show bigSep Finset.univ (fun d => payC m ρ c kBar d) = _
  rw [bigSep_bool]; rfl

/-- What the barrier and the first store start from. -/
def lanePre : sProp 𝕄 :=
  iprop(barKit c ∗ (ks m ρ c 0 ∗ ks m ρ c 1 ∗ ks m ρ c 2 ∗ ks m ρ c 3)
    ∗ (bigSep Finset.univ fun x : Fin 3 × Fin 4 => slAny (F := F) c true x.1 x.2) ∗ (bigSep Finset.univ fun x : Fin 3 × Fin 4 => slAny (F := F) c false x.1 x.2)
    ∗ amAny c (rot 1 c) ∗ amAny c (rot 2 c) ∗ amAny c (rot 3 c))

/-- What the barrier leaves for later. -/
def barPost : sProp 𝕄 := iprop(atPos ER (kcell (c, kBar)) (0 + 1) ∅ 0 ∗ amAny (F := F) (rot 1 c) c ∗ amAny (F := F) (rot 3 c) c)

theorem csem_bar : csem kBar = .reg barS := if_pos rfl
theorem kcell_bar (d : Dev nD) : kcell (d, kBar) = ((d : Thread nD τ), .reg barS) := congrArg (Prod.mk _) csem_bar
theorem fwd0_ne (j : Fin 4) (h : j ≠ 0) : fwd0 (F := F) c j = iprop(emp) := if_neg h

theorem walk2 (v2 v13 v24 : BitVec 32) {Q : _ → sProp 𝕄} {B : sProp 𝕄} (h : St m ρ K c ⟨1, 0, 0, 0⟩ 2 iprop(barPost c ∗ B) ⊢ Q ⟨⟩) :
    iprop(recs m ρ K ∗ ow c 0 ∗ xHas m ρ c ∗ wAny c ∗ lanePre m ρ c ∗ B) ⊢ WP c (app (k0_part2 (F := F)) c v2 v13 v24 (k0_pay2 (F := F) (wstg m ρ c))) Q := by
  unfold app; rw [k0_part2_eq_skeleton]; unfold k0_part2_skel
  simp only [semSignalWord, semWaitWord, Prog.lift, Prog.bind_op, Prog.bind_ret, Prog.pure_eq_ret]
  unfold xHas wAny lanePre barKit ow
  rw [kcell_bar, kcell_bar, kcell_bar, slots_give, slots_give]
  simp only [dev1_eq c, dev2_eq c]
  iintro ⟨#HR, ⟨%W, HO⟩, Hx, ⟨%g, Hw⟩, ⟨⟨Hat, Hc, Ht1, Ht2⟩, ⟨K0, K1, K2, K3⟩, ⟨A1, G1⟩, ⟨A0, G0⟩, M1, M2, M3⟩, HB⟩
  iapply (wp_store 𝒱₀ (c : Thread nD τ) none Set.univ (m := wM) (r := Rect.unit (s := S1024x2048) ![0, 0] S1024x2048.size inb_S1024x2048_S1024x2048_0_0) (Mk := Finset.univ) (Finset.subset_univ _)) $$ Hw; iintro Hw
  rw [show (wM.access (Rect.unit (s := S1024x2048) ![0, 0] S1024x2048.size inb_S1024x2048_S1024x2048_0_0)).write (Elt F) g (k0_pay3 (F := F) (k0_pay2 (F := F) (wstg m ρ c))) Finset.univ = wbv m ρ c from
    Memref.write_access_unit_zero_univ (Elt F) cc0_scratch1 z2 _ g _]
  -- the signal to the left neighbour
  iapply (Rounds.wp_signal 𝒱₀ ER (Rd m ρ) (c : Thread nD τ) none (dst := (fwd false c : Thread nD τ)) (κ := K (fwd false c, kBar)) (r := 0)
      (d := true) (by rw [← kcell_bar, duties_at]; exact Finset.mem_univ _) (by rw [← kcell_bar]; exact amount_at m ρ (fwd false c, kBar) true) () (oweL c (obs.drop 1)) (by rw [← kcell_bar]; try rfl))
    $$ [HO Ht2 G1 M3 M2]
  · rw [← kcell_bar]
    isplitr; · iapply (inv_at m ρ K (fwd false c, kBar)); iexact HR
    isplitl [HO]; · iexact HO
    isplitl [Ht2]; · iexact Ht2
    isplitl [G1 M3 M2]
    · rw [payload_at, pay_left]
      isplitl [G1]; · iexact G1
      isplitl [M3] <;> iassumption
    iapply (reached_at m ρ K (fwd false c, kBar)); iexact HR
  iintro HO
  -- and to the right
  iapply (Rounds.wp_signal 𝒱₀ ER (Rd m ρ) (c : Thread nD τ) none (dst := (fwd true c : Thread nD τ)) (κ := K (fwd true c, kBar)) (r := 0)
      (d := false) (by rw [← kcell_bar, duties_at]; exact Finset.mem_univ _) (by rw [← kcell_bar]; exact amount_at m ρ (fwd true c, kBar) false) () (oweL c (obs.drop 2)) (by rw [← kcell_bar]; try rfl))
    $$ [HO Ht1 G0 M1]
  · rw [← kcell_bar]
    isplitr; · iapply (inv_at m ρ K (fwd true c, kBar)); iexact HR
    isplitl [HO]; · iexact HO
    isplitl [Ht1]; · iexact Ht1
    isplitl [G0 M1]
    · rw [payload_at, pay_right]
      isplitl [G0]; · iexact G0
      isplitl [M1]; · iexact M1
      iempintro
    iapply (reached_at m ρ K (fwd true c, kBar)); iexact HR
  iintro HO
  -- the wait for both neighbours
  iapply (Rounds.wp_wait_rest_token 𝒱₀ ER (Rd m ρ) (c : Thread nD τ) none (κ := K (c, kBar))
      (wpE_semWait_eq 𝒱₀ (c : Thread nD τ) none Set.univ) (Set.mem_univ _) () (O := oweL c (obs.drop 2)) (W := W) (R := 0) (m := 0) (T := ∅)
      (by rw [← kcell_bar, expect_at]; rfl)) $$ [Hc HO Hat]
  · rw [← kcell_bar]
    isplitr; · iapply (inv_at m ρ K (c, kBar)); iexact HR
    isplitl [Hc]; · iexact Hc
    isplitl [HO]; · iexact HO
    isplitr
    · rw [← csem_bar]; iapply (mayWait_at c kBar (obs.drop 2) (by decide)); iapply (lev_at m ρ K); iexact HR
    iexact Hat
  rw [← kcell_bar]
  iintro ⟨HO, Hat, -, Hpay⟩
  ihave Hpay := (Entails.of_eq (rest_bar m ρ c)) $$ Hpay
  icases Hpay with ⟨⟨T0, N3, -⟩, T1, N1, Hf⟩
  ihave T0 := (Entails.of_eq (bigSep_4 _)) $$ T0
  ihave T1 := (Entails.of_eq (bigSep_4 _)) $$ T1
  ihave A0 := (Entails.of_eq (bigSep_4 _)) $$ A0
  ihave A1 := (Entails.of_eq (bigSep_4 _)) $$ A1
  icases T0 with ⟨T00, T01, T02, T03⟩
  icases T1 with ⟨T10, T11, T12, T13⟩
  icases A0 with ⟨A00, A01, A02, A03⟩
  icases A1 with ⟨A10, A11, A12, A13⟩
  ihave L0 := (lane_start m ρ c 0) $$ [K0 A00 A10 T00 T10 Hf]
  · isplitl [K0]; · iexact K0
    isplitl [A10]; · iexact A10
    isplitl [A00]; · iexact A00
    isplitl [T10]; · iexact T10
    isplitl [T00]; · iexact T00
    iexact Hf
  ihave L1 := (lane_start m ρ c 1) $$ [K1 A01 A11 T01 T11]
  · rw [fwd0_ne c 1 (by decide)]
    isplitl [K1]; · iexact K1
    isplitl [A11]; · iexact A11
    isplitl [A01]; · iexact A01
    isplitl [T11]; · iexact T11
    isplitl [T01]; · iexact T01
    iempintro
  ihave L2 := (lane_start m ρ c 2) $$ [K2 A02 A12 T02 T12]
  · rw [fwd0_ne c 2 (by decide)]
    isplitl [K2]; · iexact K2
    isplitl [A12]; · iexact A12
    isplitl [A02]; · iexact A02
    isplitl [T12]; · iexact T12
    isplitl [T02]; · iexact T02
    iempintro
  ihave L3 := (lane_start m ρ c 3) $$ [K3 A03 A13 T03 T13]
  · rw [fwd0_ne c 3 (by decide)]
    isplitl [K3]; · iexact K3
    isplitl [A13]; · iexact A13
    isplitl [A03]; · iexact A03
    isplitl [T13]; · iexact T13
    isplitl [T03]; · iexact T03
    iempintro
  refine BI.Entails.trans (Q := St m ρ K c ⟨0, 0, 0, 0⟩ 2 iprop(barPost c ∗ B)) ?_ ?_
  rotate_left
  · refine st_ldx m ρ K c ?_
    refine st_ldw m ρ K c ?_
    refine st_load_any m ρ K c true 0 0 (by decide +kernel) fun v57 => ?_
    refine st_store m ρ K c true 0 0 rfl rfl ?_
    exact st_ret c h
  unfold St lanes ow XW barPost
  show BIBase.Entails (PROP := sProp 𝕄) _ _
  iintro ⟨⟨⟨⟨⟨⟨⟨⟨⟨⟨⟨#HR, Hx⟩, HB⟩, Hw⟩, HO⟩, Hat⟩, N3⟩, N1⟩, L0⟩, L1⟩, L2⟩, L3⟩
  isplitr; · iexact HR
  isplitl [L0 L1 L2 L3]
  · isplitl [L0]; · iexact L0
    isplitl [L1]; · iexact L1
    isplitl [L2]; · iexact L2
    iexact L3
  isplitl [HO]; · iexists _; iexact HO
  isplitl [Hx Hw]
  · isplitl [Hx] <;> iassumption
  isplitl [Hat N1 N3]
  · isplitl [Hat]; · iexact Hat
    isplitl [N1] <;> iassumption
  iexact HB

end Cert.KernelIdealProof

end
-- ==== Proof.Close.lean ====
/-
# What a device gives back: its cells at zero, its buffers whole, the output's contents
-/
module

public import proofs.«01_k».proof.Proof.Entry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

/-! ## The cells -/

/-- The round a cell of device `c` ends at: no one pays the cell for its own maximum. -/
def endR : Cid → ℕ
  | .inl (.inr (.inr k)) => if k = c then 0 else 0 + 1
  | _ => 0 + 1

theorem duties_end (k : Cid) : ∀ r, endR c k ≤ r → (Rd (F := F) m ρ).duties (kcell (c, k)) r = ∅ := by
  intro r hr
  rcases Nat.eq_zero_or_pos r with h0 | h1
  · subst h0
    rw [duties_at]
    match k, hr with
    | .inl (.inr (.inr k)), hr =>
      show (if k = c then ∅ else {false}) = (∅ : Finset Bool)
      by_cases hk : k = c
      · rw [if_pos hk]
      · have : (if k = c then 0 else 0 + 1) ≤ 0 := hr
        rw [if_neg hk] at this; omega
  · exact duties_later m ρ _ r h1

theorem close_one (k : Cid) : iprop(recs m ρ K ∗ atPos ER (kcell (c, k)) (endR c k) ∅ 0) ⊢ iprop(|={Set.univ}=> semVal (kcell (c, k)) 0) := by
  refine (sep_mono_left (inv_at m ρ K (c, k))).trans ?_
  exact Rounds.cell_close ER (Rd m ρ) (Set.mem_univ _) (fun h => h) (duties_end m ρ c k)

theorem close_all : iprop(recs m ρ K ∗ bigSep Finset.univ fun k : Cid => atPos ER (kcell (c, k)) (endR c k) ∅ 0) ⊢ iprop(|={Set.univ}=> bigSep Finset.univ fun k : Cid => semVal (kcell (c, k)) 0) := by
  refine (sep_mono_left (bigSep_of_persistent (Finset.univ : Finset Cid) (recs m ρ K))).trans ?_
  refine BI.Entails.trans ?_ (bigSep_fupd Finset.univ fun k : Cid => semVal (kcell (c, k)) 0)
  rw [← bigSep_sep']
  exact bigSep_mono fun k _ => close_one m ρ K c k

/-! ## The lanes' ends -/

def posE (d : Bool) (s : Fin 3) (j : Fin 4) : sProp 𝕄 :=
  iprop(atPos ER (kcell (c, kSnd d s j)) (0 + 1) ∅ 0 ∗ atPos ER (kcell (c, kRcv d s j)) (0 + 1) ∅ 0)

theorem lane_out (j : Fin 4) : lane m ρ c j 25
    ⊢ iprop((bigSep Finset.univ fun z : Bool × Fin 3 => posE (F := F) c z.1 z.2 j) ∗ (bigSep Finset.univ fun s : Fin 3 => slAny (F := F) c true s j) ∗ bigSep Finset.univ fun s : Fin 3 => slAny (F := F) c false s j) := by
  rw [bigSep_univ_prod, bigSep_bool, bigSep_3, bigSep_3, bigSep_3, bigSep_3]
  unfold lane posE
  refine (sepL_perm _ (lane_end j)).trans ?_
  show iprop(atPos ER (kcell (c, kSnd true 0 j)) (0 + 1) ∅ 0 ∗ atPos ER (kcell (c, kSnd true 1 j)) (0 + 1) ∅ 0 ∗ atPos ER (kcell (c, kSnd true 2 j)) (0 + 1) ∅ 0
    ∗ atPos ER (kcell (c, kSnd false 0 j)) (0 + 1) ∅ 0 ∗ atPos ER (kcell (c, kSnd false 1 j)) (0 + 1) ∅ 0 ∗ atPos ER (kcell (c, kSnd false 2 j)) (0 + 1) ∅ 0
    ∗ atPos ER (kcell (c, kRcv true 0 j)) (0 + 1) ∅ 0 ∗ atPos ER (kcell (c, kRcv true 1 j)) (0 + 1) ∅ 0 ∗ atPos ER (kcell (c, kRcv true 2 j)) (0 + 1) ∅ 0
    ∗ atPos ER (kcell (c, kRcv false 0 j)) (0 + 1) ∅ 0 ∗ atPos ER (kcell (c, kRcv false 1 j)) (0 + 1) ∅ 0 ∗ atPos ER (kcell (c, kRcv false 2 j)) (0 + 1) ∅ 0
    ∗ sl c true 0 j (V m ρ (bwd true c) true (0 + 2) j) ∗ slAny c true 1 j ∗ slAny c true 2 j
    ∗ sl c false 0 j (V m ρ (bwd false c) false (0 + 2) j) ∗ slAny c false 1 j ∗ slAny c false 2 j ∗ emp) ⊢ _
  iintro ⟨S1, S2, S3, S4, S5, S6, R1, R2, R3, R4, R5, R6, A1, A2, A3, A4, A5, A6, -⟩
  isplitr [A1 A2 A3 A4 A5 A6]
  · isplitl [S4 S5 S6 R4 R5 R6]
    · isplitl [S4 R4]; · isplitl [S4] <;> iassumption
      isplitl [S5 R5]; · isplitl [S5] <;> iassumption
      isplitl [S6] <;> iassumption
    · isplitl [S1 R1]; · isplitl [S1] <;> iassumption
      isplitl [S2 R2]; · isplitl [S2] <;> iassumption
      isplitl [S3] <;> iassumption
  isplitl [A1 A2 A3]
  · isplitl [A1]; · iapply (sl_any c true 0 j _); iexact A1
    isplitl [A2] <;> iassumption
  · isplitl [A4]; · iapply (sl_any c false 0 j _); iexact A4
    isplitl [A5] <;> iassumption

/-- The four lanes at their end: every hop's two cells done with, and the two slot buffers whole. -/
theorem lanes_out : lanes m ρ c ⟨25, 25, 25, 25⟩
    ⊢ iprop((bigSep Finset.univ fun y : Hop => posE (F := F) c y.2.1 y.2.2 y.1)
      ∗ (∃ f, ((c : Thread nD τ).loc (comB true)) ↦{fullShare} f) ∗ (∃ f, ((c : Thread nD τ).loc (comB false)) ↦{fullShare} f)) := by
  have h : lanes m ρ c ⟨25, 25, 25, 25⟩ = bigSep Finset.univ fun j : Fin 4 => lane m ρ c j 25 := by rw [bigSep_4]; rfl
  rw [h]
  have h' : (bigSep Finset.univ fun j : Fin 4 => lane m ρ c j 25) ⊢ (bigSep Finset.univ fun j : Fin 4 => iprop((bigSep Finset.univ fun z : Bool × Fin 3 => posE (F := F) c z.1 z.2 j) ∗ (bigSep Finset.univ fun s : Fin 3 => slAny (F := F) c true s j) ∗ bigSep Finset.univ fun s : Fin 3 => slAny (F := F) c false s j)) :=
    bigSep_mono fun j _ => lane_out m ρ c j
  have hs : ∀ d, (bigSep Finset.univ fun j : Fin 4 => bigSep Finset.univ fun s : Fin 3 => slAny (F := F) c d s j) ⊢ iprop(∃ f, ((c : Thread nD τ).loc (comB d)) ↦{fullShare} f) := fun d => by
    rw [bigSep_univ_comm]
    have := com_join (F := F) m c d
    rw [bigSep_univ_prod] at this
    exact this
  refine h'.trans ?_
  rw [bigSep_sep', bigSep_sep', bigSep_univ_prod]
  exact sep_mono_right (BI.Entails.trans (sep_mono_left (hs true)) (sep_mono_right (hs false)))

/-! ## The output's contents -/

/-- The column block an element of the output is in, and its place in that block. -/
def blkD (i : S1024x2048.Idx) : Bool := decide ((i (1 : Fin 2)).val < 1024)
def blkJ (i : S1024x2048.Idx) : Fin 4 := ⟨(i (1 : Fin 2)).val / 256 % 4, Nat.mod_lt _ (by decide)⟩
def blkX (i : S1024x2048.Idx) : S1024x256.Idx
  | ⟨0, _⟩ => i (0 : Fin 2)
  | ⟨1, _⟩ => (⟨(i (1 : Fin 2)).val % 256, Nat.mod_lt _ (by decide)⟩ : Fin 256)

/-- Device `c`'s block of the output: its columns of the product, scaled. -/
def outAt : (cc0_stg2_0 : Ref sig .tc).ty.Contents (Elt F) :=
  fun i => qz (scl m ρ) (Y m ρ c (blkD i) (blkJ i)) (blkX i)

theorem blk_emb (i : S1024x2048.Idx) : (colR (blkD i) (blkJ i)).emb (blkX i) = i := by
  have h0 : ∀ a : Fin 2, ((colR (blkD i) (blkJ i)).emb (blkX i) a).val = (i a).val := fun a => by
    match a with
    | ⟨0, _⟩ => exact (Nat.zero_add _).trans (Nat.one_mul _)
    | ⟨1, _⟩ =>
      have hi : (i (1 : Fin 2)).val < 2048 := (i (1 : Fin 2)).isLt
      show (if decide ((i (1 : Fin 2)).val < 1024) = true then 0 else 1024) + 256 * ((i (1 : Fin 2)).val / 256 % 4) + 1 * ((i (1 : Fin 2)).val % 256) = (i (1 : Fin 2)).val
      by_cases h : (i (1 : Fin 2)).val < 1024
      · rw [if_pos (decide_eq_true h)]; omega
      · rw [if_neg (by rw [decide_eq_false h]; decide)]; omega
  funext a; exact Fin.ext (h0 a)

theorem outI_done : outI m ρ c 8 ⊢ (((c : Thread nD τ).loc cc0_stg2_0) ↦{fullShare} outAt m ρ c : sProp 𝕄) := by
  unfold outI
  iintro ⟨%f, %hf, H⟩
  have e : f = outAt m ρ c := by
    funext i
    have h := congrFun (hf (blkD i) (blkJ i) (by unfold ord; have := (blkJ i).isLt; split <;> omega)) (blkX i)
    rw [View.read_apply] at h
    refine Eq.trans (congrArg f ?_) h
    exact (blk_emb i).symm
  subst e
  iexact H

end Cert.KernelIdealProof

end
-- ==== Proof.WalkA.lean ====
/-
# The walk over parts 3 to 17 of the body: hop 0, and hop 1 of block 0
-/
module

public import proofs.«01_k».proof.Proof.App

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

theorem walk3 (v2 : BitVec 32) (v24 : BitVec 32) {Q : _ → sProp 𝕄} {B : sProp 𝕄} (h : St m ρ K c ⟨3, 0, 0, 0⟩ 3 B ⊢ Q ⟨⟩) :
    St m ρ K c ⟨1, 0, 0, 0⟩ 2 B ⊢ WP c (app (k0_part3 (F := F)) c v2 v24) Q := by
  unfold app; rw [k0_part3_eq_skeleton]; unfold k0_part3_skel
  simp only [Prog.lift, Prog.bind_op, Prog.bind_ret, Prog.pure_eq_ret]
  refine st_send m ρ K c true 0 0 (dev3_eq c) rfl rfl rfl rfl rfl rfl ?_
  refine st_ldx m ρ K c ?_
  refine st_ldw m ρ K c ?_
  refine st_load_any m ρ K c false 0 0 (by decide +kernel) fun v87 => ?_
  refine st_store m ρ K c false 0 0 rfl rfl ?_
  exact st_ret c h

theorem walk4 (v2 : BitVec 32) (v13 : BitVec 32) {Q : _ → sProp 𝕄} {B : sProp 𝕄} (h : St m ρ K c ⟨4, 1, 0, 0⟩ 4 B ⊢ Q ⟨⟩) :
    St m ρ K c ⟨3, 0, 0, 0⟩ 3 B ⊢ WP c (app (k0_part4 (F := F)) c v2 v13) Q := by
  unfold app; rw [k0_part4_eq_skeleton]; unfold k0_part4_skel
  simp only [Prog.lift, Prog.bind_op, Prog.bind_ret, Prog.pure_eq_ret]
  refine st_send m ρ K c false 0 0 (dev4_eq c) rfl rfl rfl rfl rfl rfl ?_
  refine st_ldx m ρ K c ?_
  refine st_ldw m ρ K c ?_
  refine st_load_any m ρ K c true 0 1 (by decide +kernel) fun v117 => ?_
  refine st_store m ρ K c true 0 1 rfl rfl ?_
  exact st_ret c h

theorem walk5 (v2 : BitVec 32) (v24 : BitVec 32) {Q : _ → sProp 𝕄} {B : sProp 𝕄} (h : St m ρ K c ⟨4, 2, 0, 0⟩ 5 B ⊢ Q (k0_pay7 (ldx m ρ c false 0) (ldw m ρ c false 1))) :
    St m ρ K c ⟨4, 1, 0, 0⟩ 4 B ⊢ WP c (app (k0_part5 (F := F)) c v2 v24) Q := by
  unfold app; rw [k0_part5_eq_skeleton]; unfold k0_part5_skel
  simp only [Prog.lift, Prog.bind_op, Prog.bind_ret, Prog.pure_eq_ret]
  refine st_send m ρ K c true 0 1 (dev5_eq c) rfl rfl rfl rfl rfl rfl ?_
  refine st_ldx m ρ K c ?_
  refine st_ldw m ρ K c ?_
  refine st_load_any m ρ K c false 0 1 (by decide +kernel) fun v147 => ?_
  exact st_ret c h

theorem walk6 (v2 : BitVec 32) (v13 : BitVec 32) {Q : _ → sProp 𝕄} {B : sProp 𝕄} (h : ∀ v177, St m ρ K c ⟨4, 4, 0, 0⟩ 6 B ⊢ Q ⟨k0_pay8 (ldx m ρ c true 0) (ldw m ρ c true 2), v177⟩) :
    St m ρ K c ⟨4, 2, 0, 0⟩ 5 B ⊢ WP c (app (k0_part6 (F := F)) c v2 v13 (k0_pay7 (ldx m ρ c false 0) (ldw m ρ c false 1))) Q := by
  unfold app; rw [k0_part6_eq_skeleton]; unfold k0_part6_skel
  simp only [Prog.lift, Prog.bind_op, Prog.bind_ret, Prog.pure_eq_ret]
  refine st_store m ρ K c false 0 1 rfl rfl ?_
  refine st_send m ρ K c false 0 1 (dev6_eq c) rfl rfl rfl rfl rfl rfl ?_
  refine st_ldx m ρ K c ?_
  refine st_ldw m ρ K c ?_
  refine st_load_any m ρ K c true 0 2 (by decide +kernel) fun v177 => ?_
  exact st_ret c (h v177)

theorem walk7 (v2 : BitVec 32) (v24 : BitVec 32) (v177 : Vec F S1x1x1024x256 .bf16) {Q : _ → sProp 𝕄} {B : sProp 𝕄} (h : St m ρ K c ⟨4, 4, 2, 0⟩ 7 B ⊢ Q (k0_pay10 (ldx m ρ c false 0) (ldw m ρ c false 2))) :
    St m ρ K c ⟨4, 4, 0, 0⟩ 6 B ⊢ WP c (app (k0_part7 (F := F)) c v2 v24 (k0_pay8 (ldx m ρ c true 0) (ldw m ρ c true 2)) v177) Q := by
  unfold app; rw [k0_part7_eq_skeleton]; unfold k0_part7_skel
  simp only [Prog.lift, Prog.bind_op, Prog.bind_ret, Prog.pure_eq_ret]
  refine st_store m ρ K c true 0 2 rfl rfl ?_
  refine st_send m ρ K c true 0 2 (dev7_eq c) rfl rfl rfl rfl rfl rfl ?_
  refine st_ldx m ρ K c ?_
  refine st_ldw m ρ K c ?_
  exact st_ret c h

theorem walk8 (v2 : BitVec 32) (v13 : BitVec 32) {Q : _ → sProp 𝕄} {B : sProp 𝕄} (h : St m ρ K c ⟨4, 4, 4, 0⟩ 8 B ⊢ Q (k0_pay12 (ldx m ρ c true 0) (ldw m ρ c true 3))) :
    St m ρ K c ⟨4, 4, 2, 0⟩ 7 B ⊢ WP c (app (k0_part8 (F := F)) c v2 v13 (k0_pay10 (ldx m ρ c false 0) (ldw m ρ c false 2))) Q := by
  unfold app; rw [k0_part8_eq_skeleton]; unfold k0_part8_skel
  simp only [Prog.lift, Prog.bind_op, Prog.bind_ret, Prog.pure_eq_ret]
  refine st_load_any m ρ K c false 0 2 (by decide +kernel) fun v207 => ?_
  refine st_store m ρ K c false 0 2 rfl rfl ?_
  refine st_send m ρ K c false 0 2 (dev8_eq c) rfl rfl rfl rfl rfl rfl ?_
  refine st_ldx m ρ K c ?_
  refine st_ldw m ρ K c ?_
  exact st_ret c h

theorem walk9 (v2 : BitVec 32) (v24 : BitVec 32) {Q : _ → sProp 𝕄} {B : sProp 𝕄} (h : St m ρ K c ⟨4, 4, 4, 2⟩ 9 B ⊢ Q (k0_pay14 (ldx m ρ c false 0) (ldw m ρ c false 3))) :
    St m ρ K c ⟨4, 4, 4, 0⟩ 8 B ⊢ WP c (app (k0_part9 (F := F)) c v2 v24 (k0_pay12 (ldx m ρ c true 0) (ldw m ρ c true 3))) Q := by
  unfold app; rw [k0_part9_eq_skeleton]; unfold k0_part9_skel
  simp only [Prog.lift, Prog.bind_op, Prog.bind_ret, Prog.pure_eq_ret]
  refine st_load_any m ρ K c true 0 3 (by decide +kernel) fun v237 => ?_
  refine st_store m ρ K c true 0 3 rfl rfl ?_
  refine st_send m ρ K c true 0 3 (dev9_eq c) rfl rfl rfl rfl rfl rfl ?_
  refine st_ldx m ρ K c ?_
  refine st_ldw m ρ K c ?_
  exact st_ret c h

theorem walk10 (v2 : BitVec 32) (v13 : BitVec 32) {Q : _ → sProp 𝕄} {B : sProp 𝕄} (h : St m ρ K c ⟨4, 4, 4, 4⟩ 10 B ⊢ Q (ldx m ρ c true 1)) :
    St m ρ K c ⟨4, 4, 4, 2⟩ 9 B ⊢ WP c (app (k0_part10 (F := F)) c v2 v13 (k0_pay14 (ldx m ρ c false 0) (ldw m ρ c false 3))) Q := by
  unfold app; rw [k0_part10_eq_skeleton]; unfold k0_part10_skel
  simp only [Prog.lift, Prog.bind_op, Prog.bind_ret, Prog.pure_eq_ret]
  refine st_load_any m ρ K c false 0 3 (by decide +kernel) fun v267 => ?_
  refine st_store m ρ K c false 0 3 rfl rfl ?_
  refine st_send m ρ K c false 0 3 (dev10_eq c) rfl rfl rfl rfl rfl rfl ?_
  refine st_ldx m ρ K c ?_
  exact st_ret c h

theorem walk11 (v2 : BitVec 32) {Q : _ → sProp 𝕄} {B : sProp 𝕄} (h : St m ρ K c ⟨4, 4, 4, 4⟩ 10 B ⊢ Q ⟨(pp m ρ c true 1 0), (pp m ρ c true 1 1), (ldx m ρ c true 1)⟩) :
    St m ρ K c ⟨4, 4, 4, 4⟩ 10 B ⊢ WP c (app (k0_part11 (F := F)) c v2 (ldx m ρ c true 1)) Q := by
  unfold app; rw [k0_part11_eq_skeleton]; unfold k0_part11_skel
  simp only [Prog.lift, Prog.bind_op, Prog.bind_ret, Prog.pure_eq_ret]
  refine st_ldw m ρ K c ?_
  refine st_ldx m ρ K c ?_
  refine st_ldw m ρ K c ?_
  refine st_ldx m ρ K c ?_
  exact st_ret c h

theorem walk12 (v2 : BitVec 32) {Q : _ → sProp 𝕄} {B : sProp 𝕄} (h : St m ρ K c ⟨4, 4, 4, 4⟩ 10 B ⊢ Q ⟨(pp m ρ c true 1 2), (pp m ρ c true 1 3), (ldx m ρ c false 1)⟩) :
    St m ρ K c ⟨4, 4, 4, 4⟩ 10 B ⊢ WP c (app (k0_part12 (F := F)) c v2 (ldx m ρ c true 1)) Q := by
  unfold app; rw [k0_part12_eq_skeleton]; unfold k0_part12_skel
  simp only [Prog.lift, Prog.bind_op, Prog.bind_ret, Prog.pure_eq_ret]
  refine st_ldw m ρ K c ?_
  refine st_ldx m ρ K c ?_
  refine st_ldw m ρ K c ?_
  refine st_ldx m ρ K c ?_
  exact st_ret c h

theorem walk13 (v2 : BitVec 32) {Q : _ → sProp 𝕄} {B : sProp 𝕄} (h : St m ρ K c ⟨4, 4, 4, 4⟩ 10 B ⊢ Q ⟨(pp m ρ c false 1 0), (pp m ρ c false 1 1), (ldx m ρ c false 1)⟩) :
    St m ρ K c ⟨4, 4, 4, 4⟩ 10 B ⊢ WP c (app (k0_part13 (F := F)) c v2 (ldx m ρ c false 1)) Q := by
  unfold app; rw [k0_part13_eq_skeleton]; unfold k0_part13_skel
  simp only [Prog.lift, Prog.bind_op, Prog.bind_ret, Prog.pure_eq_ret]
  refine st_ldw m ρ K c ?_
  refine st_ldx m ρ K c ?_
  refine st_ldw m ρ K c ?_
  refine st_ldx m ρ K c ?_
  exact st_ret c h

theorem walk14 (v2 : BitVec 32) (v24 : BitVec 32) {Q : _ → sProp 𝕄} {B : sProp 𝕄} (h : St m ρ K c ⟨5, 4, 4, 4⟩ 10 B ⊢ Q ⟨(pp m ρ c false 1 2), (pp m ρ c false 1 3)⟩) :
    St m ρ K c ⟨4, 4, 4, 4⟩ 10 B ⊢ WP c (app (k0_part14 (F := F)) c v2 v24 (ldx m ρ c false 1)) Q := by
  unfold app; rw [k0_part14_eq_skeleton]; unfold k0_part14_skel
  simp only [Prog.lift, Prog.bind_op, Prog.bind_ret, Prog.pure_eq_ret]
  refine st_ldw m ρ K c ?_
  refine st_ldx m ρ K c ?_
  refine st_ldw m ρ K c ?_
  refine st_recv m ρ K c true 0 0 rfl rfl rfl (by decide) ?_
  exact st_ret c h

theorem walk15 (v13 : BitVec 32) {Q : _ → sProp 𝕄} {B : sProp 𝕄} (h : St m ρ K c ⟨8, 4, 4, 4⟩ 10 B ⊢ Q ⟨⟩) :
    St m ρ K c ⟨5, 4, 4, 4⟩ 10 B ⊢ WP c (app (k0_part15 (F := F)) v13) Q := by
  unfold app; rw [k0_part15_eq_skeleton]; unfold k0_part15_skel
  simp only [Prog.lift, Prog.bind_op, Prog.bind_ret, Prog.pure_eq_ret]
  refine st_recv m ρ K c false 0 0 rfl rfl rfl (by decide) ?_
  refine st_back m ρ K c true 0 0 rfl rfl rfl (by decide) ?_
  refine st_back m ρ K c false 0 0 rfl rfl rfl (by decide) ?_
  exact st_ret c h

theorem walk16 (v24 : BitVec 32) {Q : _ → sProp 𝕄} {B : sProp 𝕄} (h : St m ρ K c ⟨11, 4, 4, 4⟩ 11 B ⊢ Q ⟨⟩) :
    St m ρ K c ⟨8, 4, 4, 4⟩ 10 B ⊢ WP c (app (k0_part16 (F := F)) c v24 (pp m ρ c true 1 0) (pp m ρ c false 1 0)) Q := by
  unfold app; rw [k0_part16_eq_skeleton]; unfold k0_part16_skel
  simp only [Prog.lift, Prog.bind_op, Prog.bind_ret, Prog.pure_eq_ret]
  refine st_load m ρ K c true 1 0 (by decide +kernel) ?_
  refine st_load m ρ K c true 1 0 (by decide +kernel) ?_
  refine st_store m ρ K c true 1 0 rfl rfl ?_
  refine st_send m ρ K c true 1 0 (dev11_eq c) rfl rfl rfl rfl rfl rfl ?_
  refine st_load m ρ K c false 1 0 (by decide +kernel) ?_
  refine st_load m ρ K c false 1 0 (by decide +kernel) ?_
  refine st_store m ρ K c false 1 0 rfl rfl ?_
  exact st_ret c h

theorem walk17 (v13 : BitVec 32) (v24 : BitVec 32) {Q : _ → sProp 𝕄} {B : sProp 𝕄} (h : St m ρ K c ⟨12, 5, 4, 4⟩ 12 B ⊢ Q ⟨⟩) :
    St m ρ K c ⟨11, 4, 4, 4⟩ 11 B ⊢ WP c (app (k0_part17 (F := F)) c v13 v24) Q := by
  unfold app; rw [k0_part17_eq_skeleton]; unfold k0_part17_skel
  simp only [Prog.lift, Prog.bind_op, Prog.bind_ret, Prog.pure_eq_ret]
  refine st_send m ρ K c false 1 0 (dev12_eq c) rfl rfl rfl rfl rfl rfl ?_
  refine st_recv m ρ K c true 0 1 rfl rfl rfl (by decide) ?_
  exact st_ret c h

end Cert.KernelIdealProof

end
-- ==== Proof.WalkB.lean ====
/-
# The walk over parts 18 to 31 of the body: the rest of hop 1, hop 2 begun
-/
module

public import proofs.«01_k».proof.Proof.App

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

theorem walk18 {Q : _ → sProp 𝕄} {B : sProp 𝕄} (h : St m ρ K c ⟨12, 8, 4, 4⟩ 12 B ⊢ Q (k0_pay26 (pp m ρ c true 1 1) (V m ρ (bwd true c) true 0 1))) :
    St m ρ K c ⟨12, 5, 4, 4⟩ 12 B ⊢ WP c (app (k0_part18 (F := F)) (pp m ρ c true 1 1)) Q := by
  unfold app; rw [k0_part18_eq_skeleton]; unfold k0_part18_skel
  simp only [Prog.lift, Prog.bind_op, Prog.bind_ret, Prog.pure_eq_ret]
  refine st_recv m ρ K c false 0 1 rfl rfl rfl (by decide) ?_
  refine st_back m ρ K c true 0 1 rfl rfl rfl (by decide) ?_
  refine st_back m ρ K c false 0 1 rfl rfl rfl (by decide) ?_
  refine st_load m ρ K c true 1 1 (by decide +kernel) ?_
  exact st_ret c h

theorem walk19 (v13 : BitVec 32) (v24 : BitVec 32) {Q : _ → sProp 𝕄} {B : sProp 𝕄} (h : ∀ wv534, St m ρ K c ⟨12, 11, 4, 4⟩ 13 B ⊢ Q ⟨wv534, 0#32⟩) :
    St m ρ K c ⟨12, 8, 4, 4⟩ 12 B ⊢ WP c (app (k0_part19 (F := F)) c v13 v24 (pp m ρ c false 1 1) (k0_pay26 (pp m ρ c true 1 1) (V m ρ (bwd true c) true 0 1))) Q := by
  unfold app; rw [k0_part19_eq_skeleton]; unfold k0_part19_skel
  simp only [Prog.lift, Prog.bind_op, Prog.bind_ret, Prog.pure_eq_ret]
  refine st_load m ρ K c true 1 1 (by decide +kernel) ?_
  refine st_store m ρ K c true 1 1 rfl rfl ?_
  refine st_send m ρ K c true 1 1 (dev13_eq c) rfl rfl rfl rfl rfl rfl ?_
  refine st_load m ρ K c false 1 1 (by decide +kernel) ?_
  refine st_load m ρ K c false 1 1 (by decide +kernel) ?_
  refine st_store m ρ K c false 1 1 rfl rfl ?_
  exact st_ret c (h _)

theorem walk20 (v13 : BitVec 32) (v24 : BitVec 32) (v534 : BitVec 32) (c0_i32_548 : BitVec 32) {Q : _ → sProp 𝕄} {B : sProp 𝕄} (h : St m ρ K c ⟨12, 12, 6, 4⟩ 14 B ⊢ Q ⟨⟩) :
    St m ρ K c ⟨12, 11, 4, 4⟩ 13 B ⊢ WP c (app (k0_part20 (F := F)) c v13 v24 v534 c0_i32_548) Q := by
  unfold app; rw [k0_part20_eq_skeleton]; unfold k0_part20_skel
  simp only [Prog.lift, Prog.bind_op, Prog.bind_ret, Prog.pure_eq_ret]
  refine st_send m ρ K c false 1 1 (dev14_eq c) rfl rfl rfl rfl rfl rfl ?_
  refine st_recv m ρ K c true 0 2 rfl rfl rfl (by decide) ?_
  refine st_recv m ρ K c false 0 2 rfl rfl rfl (by decide) ?_
  exact st_ret c h

theorem walk21 {Q : _ → sProp 𝕄} {B : sProp 𝕄} (h : St m ρ K c ⟨12, 12, 9, 4⟩ 14 B ⊢ Q ⟨⟩) :
    St m ρ K c ⟨12, 12, 6, 4⟩ 14 B ⊢ WP c (app (k0_part21 (F := F)) (pp m ρ c true 1 2)) Q := by
  unfold app; rw [k0_part21_eq_skeleton]; unfold k0_part21_skel
  simp only [Prog.lift, Prog.bind_op, Prog.bind_ret, Prog.pure_eq_ret]
  refine st_back m ρ K c true 0 2 rfl rfl rfl (by decide) ?_
  refine st_back m ρ K c false 0 2 rfl rfl rfl (by decide) ?_
  refine st_load m ρ K c true 1 2 (by decide +kernel) ?_
  refine st_load m ρ K c true 1 2 (by decide +kernel) ?_
  refine st_store m ρ K c true 1 2 rfl rfl ?_
  exact st_ret c h

theorem walk22 (v13 : BitVec 32) (v24 : BitVec 32) {Q : _ → sProp 𝕄} {B : sProp 𝕄} (h : St m ρ K c ⟨12, 12, 11, 4⟩ 15 B ⊢ Q ⟨⟩) :
    St m ρ K c ⟨12, 12, 9, 4⟩ 14 B ⊢ WP c (app (k0_part22 (F := F)) c v13 v24 (pp m ρ c false 1 2)) Q := by
  unfold app; rw [k0_part22_eq_skeleton]; unfold k0_part22_skel
  simp only [Prog.lift, Prog.bind_op, Prog.bind_ret, Prog.pure_eq_ret]
  refine st_send m ρ K c true 1 2 (dev15_eq c) rfl rfl rfl rfl rfl rfl ?_
  refine st_load m ρ K c false 1 2 (by decide +kernel) ?_
  refine st_load m ρ K c false 1 2 (by decide +kernel) ?_
  refine st_store m ρ K c false 1 2 rfl rfl ?_
  exact st_ret c h

theorem walk23 (v13 : BitVec 32) (v24 : BitVec 32) {Q : _ → sProp 𝕄} {B : sProp 𝕄} (h : St m ρ K c ⟨12, 12, 12, 6⟩ 16 B ⊢ Q ⟨⟩) :
    St m ρ K c ⟨12, 12, 11, 4⟩ 15 B ⊢ WP c (app (k0_part23 (F := F)) c v13 v24) Q := by
  unfold app; rw [k0_part23_eq_skeleton]; unfold k0_part23_skel
  simp only [Prog.lift, Prog.bind_op, Prog.bind_ret, Prog.pure_eq_ret]
  refine st_send m ρ K c false 1 2 (dev16_eq c) rfl rfl rfl rfl rfl rfl ?_
  refine st_recv m ρ K c true 0 3 rfl rfl rfl (by decide) ?_
  refine st_recv m ρ K c false 0 3 rfl rfl rfl (by decide) ?_
  exact st_ret c h

theorem walk24 (v24 : BitVec 32) {Q : _ → sProp 𝕄} {B : sProp 𝕄} (h : St m ρ K c ⟨12, 12, 12, 9⟩ 16 B ⊢ Q ⟨⟩) :
    St m ρ K c ⟨12, 12, 12, 6⟩ 16 B ⊢ WP c (app (k0_part24 (F := F)) v24 (pp m ρ c true 1 3)) Q := by
  unfold app; rw [k0_part24_eq_skeleton]; unfold k0_part24_skel
  simp only [Prog.lift, Prog.bind_op, Prog.bind_ret, Prog.pure_eq_ret]
  refine st_back m ρ K c true 0 3 rfl rfl rfl (by decide) ?_
  refine st_back m ρ K c false 0 3 rfl rfl rfl (by decide) ?_
  refine st_load m ρ K c true 1 3 (by decide +kernel) ?_
  refine st_load m ρ K c true 1 3 (by decide +kernel) ?_
  refine st_store m ρ K c true 1 3 rfl rfl ?_
  exact st_ret c h

theorem walk25 (v2 : BitVec 32) (v13 : BitVec 32) {Q : _ → sProp 𝕄} {B : sProp 𝕄} (h : ∀ wv673, St m ρ K c ⟨12, 12, 12, 12⟩ 18 B ⊢ Q ⟨wv673, 4#32, 0#32⟩) :
    St m ρ K c ⟨12, 12, 12, 9⟩ 16 B ⊢ WP c (app (k0_part25 (F := F)) c v2 v13 (pp m ρ c false 1 3)) Q := by
  unfold app; rw [k0_part25_eq_skeleton]; unfold k0_part25_skel
  simp only [Prog.lift, Prog.bind_op, Prog.bind_ret, Prog.pure_eq_ret]
  refine st_send m ρ K c true 1 3 (dev17_eq c) rfl rfl rfl rfl rfl rfl ?_
  refine st_load m ρ K c false 1 3 (by decide +kernel) ?_
  refine st_load m ρ K c false 1 3 (by decide +kernel) ?_
  refine st_store m ρ K c false 1 3 rfl rfl ?_
  refine st_send m ρ K c false 1 3 (dev18_eq c) rfl rfl rfl rfl rfl rfl ?_
  exact st_ret c (h _)

theorem walk26 (v2 : BitVec 32) (v673 : BitVec 32) (c4_i32_751 : BitVec 32) (c0_i32_752 : BitVec 32) {Q : _ → sProp 𝕄} {B : sProp 𝕄} (h : ∀ wv707, St m ρ K c ⟨12, 12, 12, 12⟩ 18 B ⊢ Q ⟨(pp m ρ c true 2 0), (pp m ρ c true 2 1), wv707, 4#32, 0#32⟩) :
    St m ρ K c ⟨12, 12, 12, 12⟩ 18 B ⊢ WP c (app (k0_part26 (F := F)) c v2 v673 c4_i32_751 c0_i32_752) Q := by
  unfold app; rw [k0_part26_eq_skeleton]; unfold k0_part26_skel
  simp only [Prog.lift, Prog.bind_op, Prog.bind_ret, Prog.pure_eq_ret]
  refine st_ldx m ρ K c ?_
  refine st_ldw m ρ K c ?_
  refine st_ldx m ρ K c ?_
  refine st_ldw m ρ K c ?_
  exact st_ret c (h _)

theorem walk27 (v2 : BitVec 32) (v707 : BitVec 32) (c4_i32_777 : BitVec 32) (c0_i32_778 : BitVec 32) {Q : _ → sProp 𝕄} {B : sProp 𝕄} (h : ∀ wv741, St m ρ K c ⟨12, 12, 12, 12⟩ 18 B ⊢ Q ⟨(pp m ρ c true 2 2), (pp m ρ c true 2 3), wv741, 4#32, 0#32⟩) :
    St m ρ K c ⟨12, 12, 12, 12⟩ 18 B ⊢ WP c (app (k0_part27 (F := F)) c v2 v707 c4_i32_777 c0_i32_778) Q := by
  unfold app; rw [k0_part27_eq_skeleton]; unfold k0_part27_skel
  simp only [Prog.lift, Prog.bind_op, Prog.bind_ret, Prog.pure_eq_ret]
  refine st_ldx m ρ K c ?_
  refine st_ldw m ρ K c ?_
  refine st_ldx m ρ K c ?_
  refine st_ldw m ρ K c ?_
  exact st_ret c (h _)

theorem walk28 (v2 : BitVec 32) (v741 : BitVec 32) (c4_i32_803 : BitVec 32) (c0_i32_804 : BitVec 32) {Q : _ → sProp 𝕄} {B : sProp 𝕄} (h : ∀ wv775, St m ρ K c ⟨12, 12, 12, 12⟩ 18 B ⊢ Q ⟨(pp m ρ c false 2 0), (pp m ρ c false 2 1), wv775, 4#32, 0#32⟩) :
    St m ρ K c ⟨12, 12, 12, 12⟩ 18 B ⊢ WP c (app (k0_part28 (F := F)) c v2 v741 c4_i32_803 c0_i32_804) Q := by
  unfold app; rw [k0_part28_eq_skeleton]; unfold k0_part28_skel
  simp only [Prog.lift, Prog.bind_op, Prog.bind_ret, Prog.pure_eq_ret]
  refine st_ldx m ρ K c ?_
  refine st_ldw m ρ K c ?_
  refine st_ldx m ρ K c ?_
  refine st_ldw m ρ K c ?_
  exact st_ret c (h _)

theorem walk29 (v2 : BitVec 32) (v775 : BitVec 32) (c4_i32_829 : BitVec 32) (c0_i32_830 : BitVec 32) {Q : _ → sProp 𝕄} {B : sProp 𝕄} (h : St m ρ K c ⟨12, 12, 12, 12⟩ 18 B ⊢ Q ⟨(pp m ρ c false 2 2), (pp m ρ c false 2 3)⟩) :
    St m ρ K c ⟨12, 12, 12, 12⟩ 18 B ⊢ WP c (app (k0_part29 (F := F)) c v2 v775 c4_i32_829 c0_i32_830) Q := by
  unfold app; rw [k0_part29_eq_skeleton]; unfold k0_part29_skel
  simp only [Prog.lift, Prog.bind_op, Prog.bind_ret, Prog.pure_eq_ret]
  refine st_ldx m ρ K c ?_
  refine st_ldw m ρ K c ?_
  refine st_ldx m ρ K c ?_
  refine st_ldw m ρ K c ?_
  exact st_ret c h

theorem walk30 (v13 : BitVec 32) (v24 : BitVec 32) {Q : _ → sProp 𝕄} {B : sProp 𝕄} (h : St m ρ K c ⟨15, 12, 12, 12⟩ 18 B ⊢ Q ⟨⟩) :
    St m ρ K c ⟨12, 12, 12, 12⟩ 18 B ⊢ WP c (app (k0_part30 (F := F)) v13 v24 (pp m ρ c true 2 0)) Q := by
  unfold app; rw [k0_part30_eq_skeleton]; unfold k0_part30_skel
  simp only [Prog.lift, Prog.bind_op, Prog.bind_ret, Prog.pure_eq_ret]
  refine st_recv m ρ K c true 1 0 rfl rfl rfl (by decide) ?_
  refine st_recv m ρ K c false 1 0 rfl rfl rfl (by decide) ?_
  refine st_load m ρ K c true 2 0 (by decide +kernel) ?_
  refine st_load m ρ K c true 2 0 (by decide +kernel) ?_
  refine st_store m ρ K c true 2 0 rfl rfl ?_
  exact st_ret c h

theorem walk31 (v13 : BitVec 32) (v24 : BitVec 32) {Q : _ → sProp 𝕄} {B : sProp 𝕄} (h : St m ρ K c ⟨17, 12, 12, 12⟩ 19 B ⊢ Q ⟨⟩) :
    St m ρ K c ⟨15, 12, 12, 12⟩ 18 B ⊢ WP c (app (k0_part31 (F := F)) c v13 v24 (pp m ρ c false 2 0)) Q := by
  unfold app; rw [k0_part31_eq_skeleton]; unfold k0_part31_skel
  simp only [Prog.lift, Prog.bind_op, Prog.bind_ret, Prog.pure_eq_ret]
  refine st_send m ρ K c true 2 0 (dev19_eq c) rfl rfl rfl rfl rfl rfl ?_
  refine st_load m ρ K c false 2 0 (by decide +kernel) ?_
  refine st_load m ρ K c false 2 0 (by decide +kernel) ?_
  refine st_store m ρ K c false 2 0 rfl rfl ?_
  exact st_ret c h

end Cert.KernelIdealProof

end
-- ==== Proof.WalkC.lean ====
/-
# The walk over parts 32 to 44 and 51 to 55 of the body: the rest of hop 2, the last sums, the sources back
-/
module

public import proofs.«01_k».proof.Proof.App

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

theorem walk32 (v13 : BitVec 32) (v24 : BitVec 32) {Q : _ → sProp 𝕄} {B : sProp 𝕄} (h : St m ρ K c ⟨18, 14, 12, 12⟩ 20 B ⊢ Q (k0_pay43 (pp m ρ c true 2 1) (V m ρ (bwd true c) true 1 1))) :
    St m ρ K c ⟨17, 12, 12, 12⟩ 19 B ⊢ WP c (app (k0_part32 (F := F)) c v13 v24 (pp m ρ c true 2 1)) Q := by
  unfold app; rw [k0_part32_eq_skeleton]; unfold k0_part32_skel
  simp only [Prog.lift, Prog.bind_op, Prog.bind_ret, Prog.pure_eq_ret]
  refine st_send m ρ K c false 2 0 (dev20_eq c) rfl rfl rfl rfl rfl rfl ?_
  refine st_recv m ρ K c true 1 1 rfl rfl rfl (by decide) ?_
  refine st_recv m ρ K c false 1 1 rfl rfl rfl (by decide) ?_
  refine st_load m ρ K c true 2 1 (by decide +kernel) ?_
  exact st_ret c h

theorem walk33 (v13 : BitVec 32) (v24 : BitVec 32) {Q : _ → sProp 𝕄} {B : sProp 𝕄} (h : ∀ wv902, St m ρ K c ⟨18, 17, 12, 12⟩ 21 B ⊢ Q ⟨wv902, 0#32⟩) :
    St m ρ K c ⟨18, 14, 12, 12⟩ 20 B ⊢ WP c (app (k0_part33 (F := F)) c v13 v24 (pp m ρ c false 2 1) (k0_pay43 (pp m ρ c true 2 1) (V m ρ (bwd true c) true 1 1))) Q := by
  unfold app; rw [k0_part33_eq_skeleton]; unfold k0_part33_skel
  simp only [Prog.lift, Prog.bind_op, Prog.bind_ret, Prog.pure_eq_ret]
  refine st_load m ρ K c true 2 1 (by decide +kernel) ?_
  refine st_store m ρ K c true 2 1 rfl rfl ?_
  refine st_send m ρ K c true 2 1 (dev21_eq c) rfl rfl rfl rfl rfl rfl ?_
  refine st_load m ρ K c false 2 1 (by decide +kernel) ?_
  refine st_load m ρ K c false 2 1 (by decide +kernel) ?_
  refine st_store m ρ K c false 2 1 rfl rfl ?_
  exact st_ret c (h _)

theorem walk34 (v13 : BitVec 32) (v24 : BitVec 32) (v902 : BitVec 32) (c0_i32_992 : BitVec 32) {Q : _ → sProp 𝕄} {B : sProp 𝕄} (h : St m ρ K c ⟨18, 18, 14, 12⟩ 22 B ⊢ Q ⟨⟩) :
    St m ρ K c ⟨18, 17, 12, 12⟩ 21 B ⊢ WP c (app (k0_part34 (F := F)) c v13 v24 v902 c0_i32_992) Q := by
  unfold app; rw [k0_part34_eq_skeleton]; unfold k0_part34_skel
  simp only [Prog.lift, Prog.bind_op, Prog.bind_ret, Prog.pure_eq_ret]
  refine st_send m ρ K c false 2 1 (dev22_eq c) rfl rfl rfl rfl rfl rfl ?_
  refine st_recv m ρ K c true 1 2 rfl rfl rfl (by decide) ?_
  refine st_recv m ρ K c false 1 2 rfl rfl rfl (by decide) ?_
  exact st_ret c h

theorem walk35 (v24 : BitVec 32) {Q : _ → sProp 𝕄} {B : sProp 𝕄} (h : St m ρ K c ⟨18, 18, 17, 12⟩ 23 B ⊢ Q ⟨⟩) :
    St m ρ K c ⟨18, 18, 14, 12⟩ 22 B ⊢ WP c (app (k0_part35 (F := F)) c v24 (pp m ρ c true 2 2) (pp m ρ c false 2 2)) Q := by
  unfold app; rw [k0_part35_eq_skeleton]; unfold k0_part35_skel
  simp only [Prog.lift, Prog.bind_op, Prog.bind_ret, Prog.pure_eq_ret]
  refine st_load m ρ K c true 2 2 (by decide +kernel) ?_
  refine st_load m ρ K c true 2 2 (by decide +kernel) ?_
  refine st_store m ρ K c true 2 2 rfl rfl ?_
  refine st_send m ρ K c true 2 2 (dev23_eq c) rfl rfl rfl rfl rfl rfl ?_
  refine st_load m ρ K c false 2 2 (by decide +kernel) ?_
  refine st_load m ρ K c false 2 2 (by decide +kernel) ?_
  refine st_store m ρ K c false 2 2 rfl rfl ?_
  exact st_ret c h

theorem walk36 (v13 : BitVec 32) (v24 : BitVec 32) {Q : _ → sProp 𝕄} {B : sProp 𝕄} (h : St m ρ K c ⟨18, 18, 18, 13⟩ 24 B ⊢ Q ⟨⟩) :
    St m ρ K c ⟨18, 18, 17, 12⟩ 23 B ⊢ WP c (app (k0_part36 (F := F)) c v13 v24) Q := by
  unfold app; rw [k0_part36_eq_skeleton]; unfold k0_part36_skel
  simp only [Prog.lift, Prog.bind_op, Prog.bind_ret, Prog.pure_eq_ret]
  refine st_send m ρ K c false 2 2 (dev24_eq c) rfl rfl rfl rfl rfl rfl ?_
  refine st_recv m ρ K c true 1 3 rfl rfl rfl (by decide) ?_
  exact st_ret c h

theorem walk37 (v24 : BitVec 32) {Q : _ → sProp 𝕄} {B : sProp 𝕄} (h : St m ρ K c ⟨18, 18, 18, 16⟩ 25 B ⊢ Q (k0_pay49 (pp m ρ c false 2 3) (V m ρ (bwd false c) false 1 3))) :
    St m ρ K c ⟨18, 18, 18, 13⟩ 24 B ⊢ WP c (app (k0_part37 (F := F)) c v24 (pp m ρ c true 2 3) (pp m ρ c false 2 3)) Q := by
  unfold app; rw [k0_part37_eq_skeleton]; unfold k0_part37_skel
  simp only [Prog.lift, Prog.bind_op, Prog.bind_ret, Prog.pure_eq_ret]
  refine st_recv m ρ K c false 1 3 rfl rfl rfl (by decide) ?_
  refine st_load m ρ K c true 2 3 (by decide +kernel) ?_
  refine st_load m ρ K c true 2 3 (by decide +kernel) ?_
  refine st_store m ρ K c true 2 3 rfl rfl ?_
  refine st_send m ρ K c true 2 3 (dev25_eq c) rfl rfl rfl rfl rfl rfl ?_
  refine st_load m ρ K c false 2 3 (by decide +kernel) ?_
  exact st_ret c h

theorem walk38 (v2 : BitVec 32) (v13 : BitVec 32) {Q : _ → sProp 𝕄} {B : sProp 𝕄} (h : St m ρ K c ⟨18, 18, 18, 18⟩ 26 B ⊢ Q ⟨(pp m ρ c true 3 0), (pp m ρ c true 3 1), (ldx m ρ c true 3)⟩) :
    St m ρ K c ⟨18, 18, 18, 16⟩ 25 B ⊢ WP c (app (k0_part38 (F := F)) c v2 v13 (k0_pay49 (pp m ρ c false 2 3) (V m ρ (bwd false c) false 1 3))) Q := by
  unfold app; rw [k0_part38_eq_skeleton]; unfold k0_part38_skel
  simp only [Prog.lift, Prog.bind_op, Prog.bind_ret, Prog.pure_eq_ret]
  refine st_load m ρ K c false 2 3 (by decide +kernel) ?_
  refine st_store m ρ K c false 2 3 rfl rfl ?_
  refine st_send m ρ K c false 2 3 (dev26_eq c) rfl rfl rfl rfl rfl rfl ?_
  refine st_ldx m ρ K c ?_
  refine st_ldw m ρ K c ?_
  refine st_ldx m ρ K c ?_
  refine st_ldw m ρ K c ?_
  refine st_ldx m ρ K c ?_
  exact st_ret c h

theorem walk39 (v2 : BitVec 32) {Q : _ → sProp 𝕄} {B : sProp 𝕄} (h : St m ρ K c ⟨18, 18, 18, 18⟩ 26 B ⊢ Q ⟨(pp m ρ c true 3 2), (pp m ρ c true 3 3), (pp m ρ c false 3 0), (pp m ρ c false 3 1), (pp m ρ c false 3 2), (pp m ρ c false 3 3)⟩) :
    St m ρ K c ⟨18, 18, 18, 18⟩ 26 B ⊢ WP c (app (k0_part39 (F := F)) c v2 (ldx m ρ c true 3)) Q := by
  unfold app; rw [k0_part39_eq_skeleton]; unfold k0_part39_skel
  simp only [Prog.lift, Prog.bind_op, Prog.bind_ret, Prog.pure_eq_ret]
  refine st_ldw m ρ K c ?_
  refine st_ldx m ρ K c ?_
  refine st_ldw m ρ K c ?_
  refine st_ldx m ρ K c ?_
  refine st_ldw m ρ K c ?_
  refine st_ldx m ρ K c ?_
  refine st_ldw m ρ K c ?_
  refine st_ldx m ρ K c ?_
  refine st_ldw m ρ K c ?_
  refine st_ldx m ρ K c ?_
  refine st_ldw m ρ K c ?_
  exact st_ret c h

theorem walk40 (v13 : BitVec 32) (v24 : BitVec 32) {Q : _ → sProp 𝕄} {B : sProp 𝕄} (h : St m ρ K c ⟨20, 18, 18, 18⟩ 26 B ⊢ Q ⟨(Y m ρ c true 0), (mxA m ρ c)⟩) :
    St m ρ K c ⟨18, 18, 18, 18⟩ 26 B ⊢ WP c (app (k0_part40 (F := F)) v13 v24 (pp m ρ c true 3 0)) Q := by
  unfold app; rw [k0_part40_eq_skeleton]; unfold k0_part40_skel
  simp only [Prog.lift, Prog.bind_op, Prog.bind_ret, Prog.pure_eq_ret]
  refine st_recv m ρ K c true 2 0 rfl rfl rfl (by decide) ?_
  refine st_load m ρ K c true 0 0 (by decide +kernel) ?_
  refine st_recv m ρ K c false 2 0 rfl rfl rfl (by decide) ?_
  exact st_ret c h

theorem walk41 (v13 : BitVec 32) (v24 : BitVec 32) {Q : _ → sProp 𝕄} {B : sProp 𝕄} (h : ∀ wv1110, St m ρ K c ⟨20, 19, 18, 18⟩ 26 B ⊢ Q ⟨(Y m ρ c false 0), (Y m ρ c true 1), (mxC m ρ c), wv1110, 0#32⟩) :
    St m ρ K c ⟨20, 18, 18, 18⟩ 26 B ⊢ WP c (app (k0_part41 (F := F)) v13 v24 (pp m ρ c true 3 1) (pp m ρ c false 3 0) (mxA m ρ c)) Q := by
  unfold app; rw [k0_part41_eq_skeleton]; unfold k0_part41_skel
  simp only [Prog.lift, Prog.bind_op, Prog.bind_ret, Prog.pure_eq_ret]
  refine st_load m ρ K c false 0 0 (by decide +kernel) ?_
  refine st_recv m ρ K c true 2 1 rfl rfl rfl (by decide) ?_
  refine st_load m ρ K c true 0 1 (by decide +kernel) ?_
  exact st_ret c (h _)

theorem walk42 (v24 : BitVec 32) (v1110 : BitVec 32) (c0_i32_1248 : BitVec 32) {Q : _ → sProp 𝕄} {B : sProp 𝕄} (h : St m ρ K c ⟨20, 20, 19, 18⟩ 26 B ⊢ Q ⟨(Y m ρ c false 1), (mxD m ρ c), (Y m ρ c true 2), (shapeCast S1x1024x256 (absf (Y m ρ c true 2)) shapeCasts_S1024x256_S1x1024x256)⟩) :
    St m ρ K c ⟨20, 19, 18, 18⟩ 26 B ⊢ WP c (app (k0_part42 (F := F)) v24 (pp m ρ c true 3 2) (pp m ρ c false 3 1) (mxC m ρ c) v1110 c0_i32_1248) Q := by
  unfold app; rw [k0_part42_eq_skeleton]; unfold k0_part42_skel
  simp only [Prog.lift, Prog.bind_op, Prog.bind_ret, Prog.pure_eq_ret]
  refine st_recv m ρ K c false 2 1 rfl rfl rfl (by decide) ?_
  refine st_load m ρ K c false 0 1 (by decide +kernel) ?_
  refine st_recv m ρ K c true 2 2 rfl rfl rfl (by decide) ?_
  refine st_load m ρ K c true 0 2 (by decide +kernel) ?_
  exact st_ret c h

theorem walk43 (v13 : BitVec 32) (v24 : BitVec 32) {Q : _ → sProp 𝕄} {B : sProp 𝕄} (h : St m ρ K c ⟨20, 20, 20, 18⟩ 26 B ⊢ Q ⟨(Y m ρ c false 2), (mxF m ρ c)⟩) :
    St m ρ K c ⟨20, 20, 19, 18⟩ 26 B ⊢ WP c (app (k0_part43 (F := F)) v13 v24 (pp m ρ c false 3 2) (mxD m ρ c) (shapeCast S1x1024x256 (absf (Y m ρ c true 2)) shapeCasts_S1024x256_S1x1024x256)) Q := by
  unfold app; rw [k0_part43_eq_skeleton]; unfold k0_part43_skel
  simp only [Prog.lift, Prog.bind_op, Prog.bind_ret, Prog.pure_eq_ret]
  refine st_recv m ρ K c false 2 2 rfl rfl rfl (by decide) ?_
  refine st_load m ρ K c false 0 2 (by decide +kernel) ?_
  exact st_ret c h

theorem walk44 (v13 : BitVec 32) {Q : _ → sProp 𝕄} {B : sProp 𝕄} (h : St m ρ K c ⟨20, 20, 20, 20⟩ 26 B ⊢ Q ⟨(Y m ρ c true 3), (Y m ρ c false 3), (fun _ => amx m ρ c)⟩) :
    St m ρ K c ⟨20, 20, 20, 18⟩ 26 B ⊢ WP c (app (k0_part44 (F := F)) v13 (pp m ρ c true 3 3) (pp m ρ c false 3 3) (mxF m ρ c)) Q := by
  unfold app; rw [k0_part44_eq_skeleton]; unfold k0_part44_skel
  simp only [Prog.lift, Prog.bind_op, Prog.bind_ret, Prog.pure_eq_ret]
  refine st_recv m ρ K c true 2 3 rfl rfl rfl (by decide) ?_
  refine st_load m ρ K c true 0 3 (by decide +kernel) ?_
  refine st_recv m ρ K c false 2 3 rfl rfl rfl (by decide) ?_
  refine st_load m ρ K c false 0 3 (by decide +kernel) ?_
  exact st_ret c h

theorem walk51 {Q : _ → sProp 𝕄} {B : sProp 𝕄} (h : St m ρ K c ⟨22, 22, 22, 21⟩ 29 B ⊢ Q ⟨⟩) :
    St m ρ K c ⟨21, 21, 21, 21⟩ 29 B ⊢ WP c (app (k0_part51 (F := F))) Q := by
  unfold app; rw [k0_part51_eq_skeleton]; unfold k0_part51_skel
  simp only [Prog.lift, Prog.bind_op, Prog.bind_ret, Prog.pure_eq_ret]
  refine st_back m ρ K c true 1 0 rfl rfl rfl (by decide) ?_
  refine st_back m ρ K c true 1 1 rfl rfl rfl (by decide) ?_
  refine st_back m ρ K c true 1 2 rfl rfl rfl (by decide) ?_
  exact st_ret c h

theorem walk52 {Q : _ → sProp 𝕄} {B : sProp 𝕄} (h : St m ρ K c ⟨23, 23, 22, 22⟩ 29 B ⊢ Q ⟨⟩) :
    St m ρ K c ⟨22, 22, 22, 21⟩ 29 B ⊢ WP c (app (k0_part52 (F := F))) Q := by
  unfold app; rw [k0_part52_eq_skeleton]; unfold k0_part52_skel
  simp only [Prog.lift, Prog.bind_op, Prog.bind_ret, Prog.pure_eq_ret]
  refine st_back m ρ K c true 1 3 rfl rfl rfl (by decide) ?_
  refine st_back m ρ K c false 1 0 rfl rfl rfl (by decide) ?_
  refine st_back m ρ K c false 1 1 rfl rfl rfl (by decide) ?_
  exact st_ret c h

theorem walk53 {Q : _ → sProp 𝕄} {B : sProp 𝕄} (h : St m ρ K c ⟨24, 23, 23, 23⟩ 29 B ⊢ Q ⟨⟩) :
    St m ρ K c ⟨23, 23, 22, 22⟩ 29 B ⊢ WP c (app (k0_part53 (F := F))) Q := by
  unfold app; rw [k0_part53_eq_skeleton]; unfold k0_part53_skel
  simp only [Prog.lift, Prog.bind_op, Prog.bind_ret, Prog.pure_eq_ret]
  refine st_back m ρ K c false 1 2 rfl rfl rfl (by decide) ?_
  refine st_back m ρ K c false 1 3 rfl rfl rfl (by decide) ?_
  refine st_back m ρ K c true 2 0 rfl rfl rfl (by decide) ?_
  exact st_ret c h

theorem walk54 {Q : _ → sProp 𝕄} {B : sProp 𝕄} (h : St m ρ K c ⟨24, 24, 24, 24⟩ 29 B ⊢ Q ⟨⟩) :
    St m ρ K c ⟨24, 23, 23, 23⟩ 29 B ⊢ WP c (app (k0_part54 (F := F))) Q := by
  unfold app; rw [k0_part54_eq_skeleton]; unfold k0_part54_skel
  simp only [Prog.lift, Prog.bind_op, Prog.bind_ret, Prog.pure_eq_ret]
  refine st_back m ρ K c true 2 1 rfl rfl rfl (by decide) ?_
  refine st_back m ρ K c true 2 2 rfl rfl rfl (by decide) ?_
  refine st_back m ρ K c true 2 3 rfl rfl rfl (by decide) ?_
  exact st_ret c h

theorem walk55 {Q : _ → sProp 𝕄} {B : sProp 𝕄} (h : St m ρ K c ⟨25, 25, 25, 24⟩ 29 B ⊢ Q ⟨⟩) :
    St m ρ K c ⟨24, 24, 24, 24⟩ 29 B ⊢ WP c (app (k0_part55 (F := F))) Q := by
  unfold app; rw [k0_part55_eq_skeleton]; unfold k0_part55_skel
  simp only [Prog.lift, Prog.bind_op, Prog.bind_ret, Prog.pure_eq_ret]
  refine st_back m ρ K c false 2 0 rfl rfl rfl (by decide) ?_
  refine st_back m ρ K c false 2 1 rfl rfl rfl (by decide) ?_
  refine st_back m ρ K c false 2 2 rfl rfl rfl (by decide) ?_
  exact st_ret c h

end Cert.KernelIdealProof

end
-- ==== Proof.Body.lean ====
/-
# The body from its start to its last waits, on one device
-/
module

public import proofs.«01_k».proof.Proof.Close
public import proofs.«01_k».proof.Proof.WalkA
public import proofs.«01_k».proof.Proof.WalkB
public import proofs.«01_k».proof.Proof.WalkC

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Cid → ℕ) (c : Dev nD)

variable {T : T4} {n : ℕ}

/-- Two programs in a row. -/
theorem WP_seq {α β : Type} {P : sProp 𝕄} {p : Prog (TpuEff nD τ sig (Elt F) Λ₀ .tc) α} {k : α → Prog (TpuEff nD τ sig (Elt F) Λ₀ .tc) β} {Q : β → sProp 𝕄}
    (h : P ⊢ WP c p (fun a => WP c (k a) Q)) : P ⊢ WP c (p >>= k) Q := by
  show P ⊢ wp frame (wpE (defs₀ (F := F)) 𝒱₀ (c : Thread nD τ) none) Set.univ (p >>= k) Q
  rw [wp_bind]; exact h

theorem St_to {A B P : sProp 𝕄} (h : A ⊢ B) (h' : St m ρ K c T n B ⊢ P) : St m ρ K c T n A ⊢ P := (St_mono m ρ K c h).trans h'

/-- What the exchange of the maxima starts from, and the output block before any store. -/
def mids : sProp 𝕄 :=
  iprop(aAny c ∗ amAny c c ∗ (mkit c 0 ∗ mkit c 1 ∗ mkit c 2) ∗ (mdue c 0 ∗ mdue c 1 ∗ mdue c 2) ∗ outI m ρ c 0)

theorem enter_maxima {B : sProp 𝕄} : iprop(amAny (opp c) c ∗ barPost c ∗ mids m ρ c ∗ B) ⊢ iprop(B45 m ρ c ∗ atPos ER (kcell (c, kBar)) (0 + 1) ∅ 0 ∗ B) := by
  unfold barPost mids B45
  iintro ⟨H2, ⟨Hat, H1, H3⟩, ⟨Ha, Hm, ⟨K0, K1, K2⟩, ⟨D0, D1, D2⟩, HO⟩, HB⟩
  isplitr [Hat HB]
  · isplitl [Ha]; · iexact Ha
    isplitl [Hm]; · iexact Hm
    isplitl [H1]; · iexact H1
    isplitl [H2]; · iexact H2
    isplitl [H3]; · iexact H3
    isplitl [K0]; · iexact K0
    isplitl [K1]; · iexact K1
    isplitl [K2]; · iexact K2
    isplitl [D0]; · iexact D0
    isplitl [D1]; · iexact D1
    isplitl [D2] <;> iassumption
  isplitl [Hat] <;> iassumption

/-- After the first store and the barrier, up to the exchange of the maxima. -/
theorem swap_ins {A X W L' N S B : sProp 𝕄} : iprop(S ∗ X ∗ W ∗ A ∗ L' ∗ N ∗ B) ⊢ iprop(A ∗ X ∗ W ∗ L' ∗ N ∗ S ∗ B) := Entails.of_eq (by ac_rfl)

theorem swap_out {A B C : sProp 𝕄} : iprop(A ∗ B ∗ C) ⊢ iprop(B ∗ A ∗ C) := Entails.of_eq (by ac_rfl)

set_option maxRecDepth 65536 in
theorem walk56 {Q : _ → sProp 𝕄} {B : sProp 𝕄}
    (h : St m ρ K c ⟨25, 25, 25, 25⟩ 29 iprop(outI m ρ c 8 ∗ B49 m ρ c ∗ atPos ER (kcell (c, kBar)) (0 + 1) ∅ 0 ∗ Stg m ρ c ∗ B) ⊢ Q c) :
    iprop(Stg m ρ c ∗ xAny c ∗ wAny c ∗ (recs m ρ K ∗ ow c 0) ∗ lanePre m ρ c ∗ mids m ρ c ∗ B) ⊢ WP c (app (k0_part56 (F := F))) Q := by
  unfold app; rw [k0_part56_eq_skeleton]; unfold k0_part56_skel
  refine WP_seq c (walk1 m ρ c fun v2 v13 v24 => ?_)
  refine (swap_ins).trans ?_
  refine WP_seq c (BI.Entails.trans (Entails.of_eq (sep_associative.assoc _ _ _)) (walk2 m ρ K c v2 v13 v24 ?_))
  refine WP_seq c (walk3 m ρ K c _ _ ?_)
  refine WP_seq c (walk4 m ρ K c _ _ ?_)
  refine WP_seq c (walk5 m ρ K c _ _ ?_)
  refine WP_seq c (walk6 m ρ K c _ _ (fun v177 => ?_))
  refine WP_seq c (walk7 m ρ K c _ _ _ ?_)
  refine WP_seq c (walk8 m ρ K c _ _ ?_)
  refine WP_seq c (walk9 m ρ K c _ _ ?_)
  refine WP_seq c (walk10 m ρ K c _ _ ?_)
  refine WP_seq c (walk11 m ρ K c _ ?_)
  refine WP_seq c (walk12 m ρ K c _ ?_)
  refine WP_seq c (walk13 m ρ K c _ ?_)
  refine WP_seq c (walk14 m ρ K c _ _ ?_)
  refine WP_seq c (walk15 m ρ K c _ ?_)
  refine WP_seq c (walk16 m ρ K c _ ?_)
  refine WP_seq c (walk17 m ρ K c _ _ ?_)
  refine WP_seq c (walk18 m ρ K c ?_)
  refine WP_seq c (walk19 m ρ K c _ _ (fun wv534 => ?_))
  refine WP_seq c (walk20 m ρ K c _ _ _ _ ?_)
  refine WP_seq c (walk21 m ρ K c ?_)
  refine WP_seq c (walk22 m ρ K c _ _ ?_)
  refine WP_seq c (walk23 m ρ K c _ _ ?_)
  refine WP_seq c (walk24 m ρ K c _ ?_)
  refine WP_seq c (walk25 m ρ K c _ _ (fun wv673 => ?_))
  refine WP_seq c (walk26 m ρ K c _ _ _ _ (fun wv707 => ?_))
  refine WP_seq c (walk27 m ρ K c _ _ _ _ (fun wv741 => ?_))
  refine WP_seq c (walk28 m ρ K c _ _ _ _ (fun wv775 => ?_))
  refine WP_seq c (walk29 m ρ K c _ _ _ _ ?_)
  refine WP_seq c (walk30 m ρ K c _ _ ?_)
  refine WP_seq c (walk31 m ρ K c _ _ ?_)
  refine WP_seq c (walk32 m ρ K c _ _ ?_)
  refine WP_seq c (walk33 m ρ K c _ _ (fun wv902 => ?_))
  refine WP_seq c (walk34 m ρ K c _ _ _ _ ?_)
  refine WP_seq c (walk35 m ρ K c _ ?_)
  refine WP_seq c (walk36 m ρ K c _ _ ?_)
  refine WP_seq c (walk37 m ρ K c _ ?_)
  refine WP_seq c (walk38 m ρ K c _ _ ?_)
  refine WP_seq c (walk39 m ρ K c _ ?_)
  refine WP_seq c (walk40 m ρ K c _ _ ?_)
  refine WP_seq c (walk41 m ρ K c _ _ (fun wv1110 => ?_))
  refine WP_seq c (walk42 m ρ K c _ _ _ ?_)
  refine WP_seq c (walk43 m ρ K c _ _ ?_)
  refine WP_seq c (walk44 m ρ K c _ ?_)
  refine st_take m ρ K c (by decide) ?_
  refine St_to m ρ K c (enter_maxima m ρ c) ?_
  refine WP_seq c (walk45 m ρ K c _ (fun v1231 v1232 v1233 => ?_))
  refine WP_seq c (walk46 m ρ K c _ _ _ _ _ (fun v1267 v1269 => ?_))
  refine WP_seq c (walk47 m ρ K c _ _ _ (fun v1301 v1303 => ?_))
  refine WP_seq c (walk48 m ρ K c _ _ ?_)
  refine WP_seq c (walk49 m ρ K c ?_)
  refine WP_seq c (walk50 m ρ K c ?_)
  refine st_take' m ρ K c 1 (by decide) (by decide) ?_
  refine st_take' m ρ K c 2 (by decide) (by decide) ?_
  refine st_take' m ρ K c 3 (by decide) (by decide) ?_
  refine WP_seq c (walk51 m ρ K c ?_)
  refine WP_seq c (walk52 m ρ K c ?_)
  refine WP_seq c (walk53 m ρ K c ?_)
  refine WP_seq c (walk54 m ρ K c ?_)
  refine WP_seq c (walk55 m ρ K c ?_)
  simp only [Prog.lift, Prog.bind_op, Prog.bind_ret, Prog.pure_eq_ret]
  refine st_back m ρ K c false 2 3 rfl rfl (by decide) (by decide) ?_
  exact st_ret c h

/-! ## The whole body -/

def scr (b : Ref sig .tc) : sProp 𝕄 := iprop(∃ f : Buf (Elt F) ((c : Thread nD τ).loc b), ((c : Thread nD τ).loc b) ↦{fullShare} f)

/-- What device `c` starts the body with. -/
def bodyIn : sProp 𝕄 :=
  iprop(Stg m ρ c ∗ xAny c ∗ wAny c ∗ (recs m ρ K ∗ ow c 0) ∗ lanePre m ρ c ∗ mids m ρ c ∗ atPos ER (kcell (c, kAr c)) 0 ∅ 0)

/-- What it ends the body with. -/
def bodyEnd : sProp 𝕄 :=
  iprop(ow (F := F) c 29 ∗ (bigSep Finset.univ fun k : Cid => semVal (kcell (c, k)) 0)
    ∗ (scr (F := F) c cc0_scratch0 ∗ scr (F := F) c cc0_scratch1 ∗ scr (F := F) c cc0_scratch2 ∗ scr (F := F) c cc0_scratch3 ∗ scr (F := F) c cc0_scratch4 ∗ scr (F := F) c cc0_scratch5)
    ∗ Stg m ρ c ∗ (((c : Thread nD τ).loc cc0_stg2_0) ↦{fullShare} outAt m ρ c))

/-- What the last waits leave, before the cells are closed. -/
def late : sProp 𝕄 :=
  iprop((mdon c 0 ∗ mdon c 1 ∗ mdon c 2) ∗ (mgot c 0 ∗ mgot c 1 ∗ mgot c 2) ∗ (atPos ER (kcell (c, kBar)) (0 + 1) ∅ 0 ∗ atPos ER (kcell (c, kAr c)) 0 ∅ 0)
    ∗ (amOut c (shr 0) (fun _ => amx m ρ c) ∗ amOut c (shr 1) (fun _ => amx m ρ c) ∗ amOut c (shr 2) (fun _ => amx m ρ c))
    ∗ AM m ρ c ∗ outI m ρ c 8 ∗ Stg m ρ c)

theorem endR_self : endR c (kAr c) = 0 := if_pos rfl
theorem endR_rot (k : Fin 3) : endR c (kAr (rot (k.val + 1) c)) = 0 + 1 := if_neg (rot_ne' k c)

theorem all_done : iprop((mdon c 0 ∗ mdon c 1 ∗ mdon c 2) ∗ (mgot c 0 ∗ mgot c 1 ∗ mgot c 2) ∗ (atPos ER (kcell (c, kBar)) (0 + 1) ∅ 0 ∗ atPos ER (kcell (c, kAr c)) 0 ∅ 0)
      ∗ bigSep Finset.univ fun y : Hop => posE (F := F) c y.2.1 y.2.2 y.1)
    ⊢ (bigSep Finset.univ fun k : Cid => atPos ER (kcell (c, k)) (endR c k) ∅ 0 : sProp 𝕄) := by
  rw [bigSep_cid c, endR_self, show endR c (kAr (rot 1 c)) = 0 + 1 from endR_rot c 0, show endR c (kAr (rot 2 c)) = 0 + 1 from endR_rot c 1, show endR c (kAr (rot 3 c)) = 0 + 1 from endR_rot c 2]
  rw [show endR c (kAs 0) = 0 + 1 from rfl, show endR c (kAs 1) = 0 + 1 from rfl, show endR c (kAs 2) = 0 + 1 from rfl]
  unfold mdon mgot
  iintro ⟨⟨D0, D1, D2⟩, ⟨G0, G1, G2⟩, ⟨B, A⟩, H⟩
  isplitl [B]; · iexact B
  isplitl [D0 D1 D2]
  · isplitl [D0]; · iexact D0
    isplitl [D1]; · iexact D1
    iexact D2
  isplitl [A G0 G1 G2]
  · isplitl [A]; · iexact A
    isplitl [G0]; · iexact G0
    isplitl [G1]; · iexact G1
    iexact G2
  iexact H

theorem finish : St m ρ K c ⟨25, 25, 25, 25⟩ 29 (late m ρ c) ⊢ iprop(|={Set.univ}=> bodyEnd m ρ c) := by
  unfold St late XW
  iintro ⟨#HR, HL, HO, ⟨X, W⟩, HD, HG, HB, HA, HM, HI, HS⟩
  ihave HL := (lanes_out m ρ c) $$ HL
  icases HL with ⟨HP, C1, C0⟩
  ihave HZ := (all_done c) $$ [HD HG HB HP]
  · isplitl [HD]; · iexact HD
    isplitl [HG]; · iexact HG
    isplitl [HB] <;> iassumption
  imod (close_all m ρ K c) $$ [HZ] with HZ
  · isplitr; · iexact HR
    iexact HZ
  ihave HA := (aHas_join c _) $$ HA
  ihave HI := (outI_done m ρ c) $$ HI
  imodintro
  unfold bodyEnd scr
  isplitl [HO]; · iexact HO
  isplitl [HZ]; · iexact HZ
  isplitl [X W C1 C0 HA HM]
  · isplitl [X]; · iexists _; iexact X
    isplitl [W]; · iexists _; iexact W
    isplitl [C1]; · iexact C1
    isplitl [C0]; · iexact C0
    unfold aHas AM
    isplitl [HA]; · iexists _; iexact HA
    iexists _; iexact HM
  isplitl [HS] <;> iassumption

set_option maxRecDepth 65536 in
theorem body_run {Q : PUnit → sProp 𝕄} (h : bodyEnd m ρ c ⊢ Q ⟨⟩) : bodyIn m ρ K c ⊢ WP c (app (cc0_body (F := F))) Q := by
  unfold bodyIn app; rw [cc0_body_eq_skeleton]; unfold cc0_body_skel
  refine WP_seq c (walk56 m ρ K c ?_)
  simp only [Prog.lift, Prog.bind_op, Prog.bind_ret, Prog.pure_eq_ret]
  refine st_max_back m ρ K c 0 rfl (show _ = iprop(mfly c 0 ∗ (mfly c 1 ∗ mfly c 2 ∗ outI m ρ c 8 ∗ AM m ρ c ∗ mgot c 0 ∗ mgot c 1 ∗ mgot c 2 ∗ atPos ER (kcell (c, kBar)) (0 + 1) ∅ 0 ∗ Stg m ρ c ∗ atPos ER (kcell (c, kAr c)) 0 ∅ 0)) from by unfold B49; ac_rfl) ?_
  refine st_max_back m ρ K c 1 rfl (show _ = iprop(mfly c 1 ∗ (mfly c 2 ∗ mdon c 0 ∗ amOut c (shr 0) (fun _ => amx m ρ c) ∗ outI m ρ c 8 ∗ AM m ρ c ∗ mgot c 0 ∗ mgot c 1 ∗ mgot c 2 ∗ atPos ER (kcell (c, kBar)) (0 + 1) ∅ 0 ∗ Stg m ρ c ∗ atPos ER (kcell (c, kAr c)) 0 ∅ 0)) from by ac_rfl) ?_
  refine st_max_back m ρ K c 2 rfl (show _ = iprop(mfly c 2 ∗ (mdon c 1 ∗ amOut c (shr 1) (fun _ => amx m ρ c) ∗ mdon c 0 ∗ amOut c (shr 0) (fun _ => amx m ρ c) ∗ outI m ρ c 8 ∗ AM m ρ c ∗ mgot c 0 ∗ mgot c 1 ∗ mgot c 2 ∗ atPos ER (kcell (c, kBar)) (0 + 1) ∅ 0 ∗ Stg m ρ c ∗ atPos ER (kcell (c, kAr c)) 0 ∅ 0)) from by ac_rfl) ?_
  refine (St_mono m ρ K c (Entails.of_eq (show _ = late m ρ c from by unfold late; ac_rfl))).trans ?_
  show _ ⊢ wp frame (wpE (defs₀ (F := F)) 𝒱₀ (c : Thread nD τ) none) Set.univ (Prog.ret PUnit.unit) Q
  rw [wp_ret]
  exact (finish m ρ K c).trans (fupd_mono h)

end Cert.KernelIdealProof

end
-- ==== Proof.Oblige.lean ====
/-
# The pipeline's proof data, and the body's obligation
-/
module

public import proofs.«01_k».proof.Proof.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, and that every cell has reached its round. -/
def records (K : Dev nD × Cid → ℕ) : sProp 𝕄 :=
  iprop((bigSep Finset.univ fun ck : Dev nD × Cid => cellInv ER (Rd m ρ) (K ck) (kcell ck))
    ∗ bigSep Finset.univ fun ck : Dev nD × Cid => reached ER (kcell ck) 0)

instance records_persistent (K : Dev nD × Cid → ℕ) : BI.Persistent (records m ρ K) := by unfold records; infer_instance

/-- A device's positions, and the tokens of the duties it pays. -/
def share : sProp 𝕄 :=
  iprop((bigSep Finset.univ fun k : Cid => atPos ER (kcell (c, k)) 0 ∅ 0) ∗ bigSep Finset.univ fun k : Cid => iprop(tokC (F := F) c k false ∗ tokC (F := F) c k true))
def creds : sProp 𝕄 := bigSep Finset.univ fun k : Cid => cred (tallyAt (kcell (c, k)) () (cnt c k * amtC k))

/-- What the global step makes of the launch's ghost state. -/
def G' : sProp 𝕄 := iprop(∃ K, records m ρ K ∗ share (F := F) c)

def start : sProp 𝕄 := iprop(G' m ρ c ∗ creds (F := F) c ∗ levAts L lv)

/-- The kernel's scratch buffers, whatever they hold. -/
def scrs : sProp 𝕄 :=
  iprop(scr (F := F) c cc0_scratch0 ∗ scr (F := F) c cc0_scratch1 ∗ scr (F := F) c cc0_scratch2 ∗ scr (F := F) c cc0_scratch3 ∗ scr (F := F) c cc0_scratch4 ∗ scr (F := F) c cc0_scratch5)

def Φ₀ : sProp 𝕄 := iprop(start m ρ c ∗ scrs (F := F) c)
def Φ₁ : sProp 𝕄 := iprop((bigSep Finset.univ fun k : Cid => semVal (kcell (c, k)) 0) ∗ scrs (F := F) c)

def O₀ (c : Dev nD) : CellTallies nD τ sig Unit := oweL c obs

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## What a device starts the body with -/

theorem start_lin : iprop(share (F := F) c ∗ creds (F := F) c) ⊢ bigSep Finset.univ fun k : Cid => lin (F := F) c k := by
  unfold lin share creds
  simp only [bigSep_sep']
  exact Entails.of_eq (by ac_rfl)

theorem am_deal : scr (F := F) c cc0_scratch5 ⊢ iprop(amAny c c ∗ amAny c (rot 1 c) ∗ amAny c (rot 2 c) ∗ amAny c (rot 3 c)) := by
  rw [← bigSep_rot (F := F) c (fun k => amAny (F := F) c k)]
  exact am_split (F := F) c

theorem enter (K : Dev nD × Cid → ℕ) : iprop((records m ρ K ∗ share (F := F) c) ∗ creds (F := F) c ∗ levAts L lv ∗ scrs (F := F) c ∗ ow (F := F) c 0 ∗ Stg m ρ c ∗ scr (F := F) c cc0_stg2_0)
    ⊢ bodyIn m ρ K c := by
  unfold records scrs
  iintro ⟨⟨⟨HI, HR⟩, Hs⟩, Hc, HL, ⟨S0, S1, S2, S3, S4, S5⟩, HO, HS, HOut⟩
  ihave HD := (start_lin c) $$ [Hs Hc]
  · isplitl [Hs] <;> iassumption
  ihave HD := (deal m ρ c) $$ HD
  icases HD with ⟨Hb, Hk, Hd, Ha, Hks⟩
  ihave S5 := (am_deal c) $$ S5
  icases S5 with ⟨A, A1, A2, A3⟩
  ihave S2 := (show scr (F := F) c cc0_scratch2 ⊢ (bigSep Finset.univ fun x : Fin 3 × Fin 4 => slAny (F := F) c true x.1 x.2 : sProp 𝕄) from com_split (F := F) c true) $$ S2
  ihave S3 := (show scr (F := F) c cc0_scratch3 ⊢ (bigSep Finset.univ fun x : Fin 3 × Fin 4 => slAny (F := F) c false x.1 x.2 : sProp 𝕄) from com_split (F := F) c false) $$ S3
  ihave HOut := (show scr (F := F) c cc0_stg2_0 ⊢ outI m ρ c 0 from outI_zero m ρ c) $$ HOut
  unfold bodyIn recs lanePre mids xAny wAny aAny scr
  isplitl [HS]; · iexact HS
  isplitl [S0]; · iexact S0
  isplitl [S1]; · iexact S1
  isplitl [HI HR HL HO]
  · isplitl [HI HR HL]
    · isplitl [HI]; · iexact HI
      isplitl [HR]; · iexact HR
      iexact HL
    iexact HO
  isplitl [Hb Hks S2 S3 A1 A2 A3]
  · isplitl [Hb]; · iexact Hb
    isplitl [Hks]; · iexact Hks
    isplitl [S2]; · iexact S2
    isplitl [S3]; · iexact S3
    isplitl [A1]; · iexact A1
    isplitl [A2]; · iexact A2
    iexact A3
  isplitl [S4 A Hk Hd HOut]
  · isplitl [S4]; · iexact S4
    isplitl [A]; · iexact A
    isplitl [Hk]; · iexact Hk
    isplitl [Hd]; · iexact Hd
    iexact HOut
  iexact Ha

/-! ## The obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

theorem bodyPre_in : bodyPre m ρ c ⊢ iprop(∃ K, bodyIn m ρ K c) := by
  unfold bodyPre Φ₀ start G'
  iintro ⟨⟨⟨⟨%K, HG⟩, HC, HL⟩, HS⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = oweL c (obs.drop 0) from rfl]
  iexists K
  iapply (enter m ρ c K)
  isplitl [HG]; · iexact HG
  isplitl [HC]; · iexact HC
  isplitl [HL]; · iexact HL
  isplitl [HS]; · iexact HS
  isplitl [HO]; · unfold ow; iexists W; iexact HO
  isplitl [Hx Hw]; · unfold Stg; isplitl [Hx] <;> iassumption
  unfold scr; iexists _; iexact Hout

theorem bodyEnd_post : bodyEnd m ρ c ⊢ bodyPost m ρ c := by
  unfold bodyEnd bodyPost Φ₁ scrs Dat.owesAt Pipeline.owesWithin ow Stg
  rw [show (dats m ρ 0 c).owed t₀.succ = oweL c (obs.drop 29) from rfl]
  iintro ⟨⟨%W, HO⟩, HZ, HS, ⟨Hx, Hw⟩, Hout⟩
  isplitl [HZ HS]
  · isplitl [HZ] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (app (cc0_body (F := F))) (fun _ => bodyPost m ρ c)
  refine (bodyPre_in m ρ c).trans ?_
  iintro ⟨%K, H⟩
  iapply (body_run m ρ K c (Q := fun _ => bodyPost m ρ c) (bodyEnd_post m ρ c))
  iexact H

end Cert.KernelIdealProof

end
-- ==== Proof.Launch.lean ====
/-
# The launch: the ghost state dealt out, and the run
-/
module

public import proofs.«01_k».proof.Proof.Oblige
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

def osem : Own → SemLoc sig := fun k => csem (kown k)

theorem ownSemFacts : Pipeline.OwnSemFacts cfg0.spec osem := by decide +kernel

theorem share_eq (c : Dev nD) (w : Fin cfg0.W) : (dats m ρ 0 c).share w = fullShare := by unfold Dat.share; split <;> rfl

def ringCells : Finset (GSem nD τ sig) := Finset.univ.map ⟨kcell, kcell_injective⟩

/-- The duty tokens, by cell and duty. -/
abbrev tokOf (x : (Dev nD × Cid) × Bool) : GSem nD τ sig × ℕ × Bool := (kcell x.1, 0, x.2)
theorem tokOf_injective : Function.Injective tokOf := by
  rintro ⟨ck, b⟩ ⟨ck', b'⟩ h
  have h1 : ck = ck' := kcell_injective (congrArg (fun x : GSem nD τ sig × ℕ × Bool => x.1) h)
  have h2 : b = b' := congrArg (fun x : GSem nD τ sig × ℕ × Bool => x.2.2) h
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

def toks : sProp 𝕄 :=
  bigSep Finset.univ fun k : Cid => bigSep Finset.univ fun b : Bool => dutyTok ER (kcell (c, k)) 0 b

/-- What the launch element deals device `c`. -/
def G : sProp 𝕄 :=
  iprop((bigSep Finset.univ fun k : Cid => roundState ER (Rd m ρ) (kcell (c, k)) 0)
    ∗ ((bigSep Finset.univ fun k : Cid => atPos ER (kcell (c, k)) 0 ∅ 0) ∗ (bigSep Finset.univ fun k : Cid => reached ER (kcell (c, k)) 0)) ∗ toks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cid => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks; rw [bigSep_map, bigSep_univ_prod, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (kcell (c, kBar)) 0 := by
  unfold unscopedSems0; rw [bigSep_eq_bigSepL_of_eq [SemLoc.reg barS] (by decide) (by decide), kcell_bar]; rfl

/-- All of a device's counters, the launch's and the kernel's own. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Cid => semVal (kcell (c, k)) 0 : sProp 𝕄) := by
  rw [bigSep_own, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ ((bigSep Finset.univ fun k : Cid => atPos ER (kcell (c, k)) 0 ∅ 0) ∗ (bigSep Finset.univ fun k : Cid => reached ER (kcell (c, k)) 0)) ∗ toks (F := F) c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Cid => semVal (kcell (c, k)) 0) ∗ bigSep Finset.univ fun k : Cid => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem payTo_snd (x : (Dev nD × Cid) × Bool) : (payTo x).2 = x.2 := by
  obtain ⟨⟨c, (_ | _ | k) | ⟨_ | _, d, s, j⟩⟩, b⟩ := x <;> rfl

/-- Every token goes to the device that pays the duty. -/
theorem toks_around : (bigSep Finset.univ fun c : Dev nD => toks (F := F) c)
    = bigSep Finset.univ fun c : Dev nD => bigSep Finset.univ fun k : Cid => iprop(tokC (F := F) c k false ∗ tokC (F := F) c k true) := by
  unfold toks
  have h1 := bigSep_univ_prod (fun x : (Dev nD × Cid) × Bool => (dutyTok ER (kcell x.1) 0 x.2 : sProp 𝕄))
  rw [bigSep_univ_equiv payE, bigSep_univ_prod, bigSep_univ_prod, bigSep_univ_prod (fun i : Dev nD × Cid => bigSep Finset.univ fun b : Bool => (dutyTok ER (kcell i) 0 b : sProp 𝕄))] at h1
  refine h1.symm.trans (bigSep_congr fun c _ => bigSep_congr fun k _ => ?_)
  rw [bigSep_bool]
  show iprop(dutyTok ER (kcell (payTo ((c, k), false)).1) 0 (payTo ((c, k), false)).2 ∗ dutyTok ER (kcell (payTo ((c, k), true)).1) 0 (payTo ((c, k), true)).2) = _
  rw [payTo_snd, payTo_snd]; rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ ((bigSep Finset.univ fun k : Cid => atPos ER (kcell (c, k)) 0 ∅ 0) ∗ (bigSep Finset.univ fun k : Cid => reached ER (kcell (c, k)) 0)) ∗ toks (F := F) c) : sProp 𝕄)
      ⊢ bigSep Finset.univ (G' m ρ) := by
  rw [bigSep_sep', bigSep_sep', ← bigSep_univ_prod (fun ck : Dev nD × Cid => iprop(∃ κ : ℕ, cellInv ER (Rd m ρ) κ (kcell ck))),
    bigSep_sep', ← bigSep_univ_prod (fun ck : Dev nD × Cid => (reached ER (kcell ck) 0 : sProp 𝕄)), toks_around]
  iintro ⟨HI, ⟨Hat, #HR⟩, Htok⟩
  ihave HK := (BI.bigSep_exists_pi Finset.univ (fun (ck : Dev nD × Cid) (κ : ℕ) => (cellInv ER (Rd m ρ) κ (kcell ck) : sProp 𝕄))) $$ HI
  icases HK with ⟨%K, #HI⟩
  iapply (bigSep_with_persistent (R := records m ρ K) (Φ := fun c => share (F := F) c) fun c _ => show iprop(records m ρ K ∗ share (F := F) c) ⊢ G' m ρ c from by unfold G'; iintro H; iexists K; iexact H)
  isplitr
  · unfold records; isplitl; · iexact HI
    iexact HR
  · unfold share; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem owe_cell (d : Dev nD) (ck : Dev nD × Cid) : ∀ l : List Ob, oweL d l (kcell ck) () = l.countP (fun o => decide (o.cell d = ck)) * amtC ck.2
  | [] => (Nat.zero_mul _).symm
  | o :: l => by
    unfold oweL
    rw [Pi.add_apply, Finsupp.add_apply, tallyAt_apply, owe_cell d ck l, List.countP_cons, Nat.add_mul]
    congr 1
    by_cases h : o.cell d = ck
    · subst h; rw [if_pos ⟨rfl, rfl⟩, if_pos (decide_eq_true rfl), Nat.one_mul]
    · rw [if_neg fun h' => h (kcell_injective h'.1).symm, if_neg (by rw [decide_eq_false h]; decide), Nat.zero_mul]

theorem count_all : ∀ (c : Dev nD) (k : Cid), (∑ d : Dev nD, obs.countP (fun o => decide (o.cell d = (c, k)))) = cnt c k := by decide +kernel

theorem launch_cell (k : Cid) :
    tallyOn (kcell (c, k)) (launchCredit (Pipeline.owing O₀) 0 (kcell (c, k))) = (tallyAt (kcell (c, k)) () (cnt c k * amtC k) : CellTallies nD τ sig Unit) := by
  unfold tallyAt; refine congrArg _ (Finsupp.ext fun u => ?_); cases u
  rw [Pipeline.launchCredit_owing, Finsupp.single_eq_same]
  unfold O₀
  rw [Finset.sum_congr rfl fun d _ => owe_cell d (c, k) obs, ← Finset.sum_mul, count_all]

theorem creds_intro : (Pipeline.launchCred O₀ c : sProp 𝕄) ⊢ creds (F := F) c := by
  have hc : Function.Injective (csem : Cid → SemLoc sig) := fun k k' h => congrArg Prod.snd (kcell_injective (a₁ := (c, k)) (a₂ := (c, k')) (congrArg (Prod.mk _) h))
  unfold Pipeline.launchCred creds
  refine (BI.bigSep_subset (Finset.subset_univ (Finset.univ.map ⟨csem, hc⟩))).trans ?_
  rw [bigSep_map]
  exact Entails.of_eq (bigSep_congr fun k _ => congrArg cred (launch_cell c k))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scrs_eq (c : Dev nD) : scrs (F := F) c = (Pipeline.scopedRest cfg0.spec c : sProp 𝕄) := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, ← scrs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ← scrs_eq]
  unfold Φ₁
  rw [← sems0_eq]
  exact Entails.of_eq (sep_associative.assoc _ _ _)

theorem waits (c : Dev nD) : (levAts L lv : sProp 𝕄) ⊢ Pipeline.cellsWaits cfgs (dats m ρ) () 0 c :=
  Pipeline.cellsWaits_intro cfgs (dats m ρ) () 0 c fun w s t => by
    have hq : ((cfg0.win w).sem s).val < 3 := by fin_cases w <;> fin_cases s <;> decide
    rcases t with ⟨_ | _, ht⟩
    · exact mayWait_stage c _ hq obs
    · exact mayWait_stage c _ hq []

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters: every weakly fair execution of the four kernels ends, with each device's
    result at the computed contents, its arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Frames.lean ====
/- # The frames of the three programs

   The kernel's run, read at its argument arrays and at its counters, over the idealized values and over the bit patterns;
   the reference's run, read at its arguments, its counters at zero because it has none. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 65536

noncomputable section

namespace Cert.KernelIdealProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- `x` ends as it was: its window only reads. -/
theorem finalA_x (c : Dev nD) : finalA m ρ c (0 : Fin 3) = m ((c.tc : Thread nD τ).loc main_arg0) :=
  (dats m ρ 0 c).arrAt_in (0 : Fin 3) rfl _

/-- `w` ends as it was: its window only reads. -/
theorem finalA_w (c : Dev nD) : finalA m ρ c (1 : Fin 3) = m ((c.tc : Thread nD τ).loc main_arg1) :=
  (dats m ρ 0 c).arrAt_in (1 : Fin 3) rfl _

/-- The result's one block ends holding the computed tile. -/
theorem finalA_out (c : Dev nD) :
    (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The run with the arguments as they were and every counter back at zero, over any float values. -/
theorem frame_any : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono
    (fun _ h => ⟨fun c => ⟨(h.1 c (0 : Fin 3)).trans (finalA_x m ρ c), (h.1 c (1 : Fin 3)).trans (finalA_w m ρ c)⟩, h.2⟩)
    (run_main m ρ)

/-- The kernel's frame over the idealized values. -/
theorem frame_kernelIdeal : Cert.quiescent_KernelIdeal := fun m ρ _ => frame_any (F := Ideal) m ρ

/-- The two printings of the kernel are one text: their bodies, -/
theorem same_body :
    @Cert.Kernel.cc0_body Bits _ Cert.Kernel.Gen.facts = @Cert.KernelIdeal.cc0_body Bits _ Cert.KernelIdeal.Gen.facts := rfl

/-- their kernels' body tables, -/
theorem same_defs₀ : Cert.Kernel.defs₀ (F := Bits) = Cert.KernelIdeal.defs₀ := by
  refine congrArg Defs.onTc (funext fun l => funext fun a => ?_)
  match l, a with
  | 0, (t, s) => rfl
  | ⟨_ + 1, h⟩, _ => exact absurd h (by omega)

/-- and the tables of the whole programs. -/
theorem same_defs : Cert.Kernel.defs (F := Bits) = Cert.KernelIdeal.defs :=
  congrArg (Pipeline.defs Cert.KernelIdeal.pcfgs) same_defs₀

/-- The kernel's frame over the bit patterns. -/
theorem frame_kernel : Cert.quiescent_Kernel := fun m ρ _ => by
  rw [same_defs]
  exact frame_any (F := Bits) m ρ

/-- The reference has no semaphores and writes neither argument. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.KernelIdealProof

end
-- ==== Proof.Product.lean ====
/- # What each device's sums are, over the extended reals

   A block of columns of one device's product, read at an entry, is a sum over that device's quarter of the contracted
   axis; the four partial sums met around the ring are the whole product's entry. -/
module

public import proofs.«01_k».proof.Proof.Frames
public import Idealize.ShloMosaic.Lib.Pointwise
public import Idealize.ShloMosaic.Lib.Layout

@[expose] public section

set_option maxRecDepth 16384

noncomputable section

namespace Cert.KernelIdealProof

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The copies -/

/-- The scratch copy of `x` is device `c`'s argument. -/
theorem xbv_eq (c : Dev nD) : xbv m ρ c = m ((c.tc : Thread nD τ).loc main_arg0) := by
  have hz : (fun a => (win0_0.index (0 : Fin 1)) a * main_arg0.ty.shape.size a) = fun _ => 0 :=
    funext fun a => by fin_cases a <;> decide
  have hr := Memref.read_access_unit_zero (Elt Ideal) main_arg0 hz (fun a => by fin_cases a <;> decide)
    (m ((c.tc : Thread nD τ).loc main_arg0))
  have h1 : xstg m ρ c = m ((c.tc : Thread nD τ).loc main_arg0) := hr
  unfold xbv k0_pay1
  simp only [shapeCast_self]
  exact h1

theorem wbv_eq (c : Dev nD) : wbv m ρ c = m ((c.tc : Thread nD τ).loc main_arg1) := by
  have hz : (fun a => (win0_1.index (0 : Fin 1)) a * main_arg1.ty.shape.size a) = fun _ => 0 :=
    funext fun a => by fin_cases a <;> decide
  have hr := Memref.read_access_unit_zero (Elt Ideal) main_arg1 hz (fun a => by fin_cases a <;> decide)
    (m ((c.tc : Thread nD τ).loc main_arg1))
  have h1 : wstg m ρ c = m ((c.tc : Thread nD τ).loc main_arg1) := hr
  unfold wbv k0_pay3 k0_pay2
  simp only [shapeCast_self]
  exact h1

/-! ## The rows and columns -/

/-- The block of rows device `c` multiplies for hop `s` of direction `d`. -/
def rowB (c : Dev nD) (d : Bool) (s : Fin 4) : Dev nD := rot (if d then 3 - s.val else 1 + s.val) c

theorem rowB_inb (b : Dev nD) : ∀ a, (![1024 * b.val, 0] : Fin 2 → ℕ) a + S1024x1024.size a ≤ S4096x1024.size a := by
  revert b; decide +kernel

/-- The rectangle of those rows. -/
abbrev rowR (b : Dev nD) : Rect S4096x1024 := Rect.unit (s := S4096x1024) ![1024 * b.val, 0] S1024x1024.size (rowB_inb b)

theorem ldx_of (c b : Dev nD) (off : Fin 2 → ℕ) (h : ∀ a, off a + S1024x1024.size a ≤ S4096x1024.size a)
    (e : off = ![1024 * b.val, 0]) :
    xM.view.readAt (Elt Ideal) (Rect.unit (s := S4096x1024) off S1024x1024.size h).toLoadRect (xbv m ρ c)
      = xM.view.readAt (Elt Ideal) (rowR b).toLoadRect (xbv m ρ c) := by
  subst e; rfl

theorem ldx_eq (c : Dev nD) (d : Bool) (s : Fin 4) :
    ldx m ρ c d s = xM.view.readAt (Elt Ideal) (rowR (rowB c d s)).toLoadRect (xbv m ρ c) := by
  match d, s with
  | true, 0 => exact ldx_of m ρ c _ _ _ ((by decide +kernel : ∀ c, k0_off1 c = ![1024 * (rowB c true 0).val, 0]) c)
  | false, 0 => exact ldx_of m ρ c _ _ _ ((by decide +kernel : ∀ c, k0_off2 c = ![1024 * (rowB c false 0).val, 0]) c)
  | true, 1 => exact ldx_of m ρ c _ _ _ ((by decide +kernel : ∀ c, k0_off3 c 1#32 = ![1024 * (rowB c true 1).val, 0]) c)
  | false, 1 => exact ldx_of m ρ c _ _ _ ((by decide +kernel : ∀ c, k0_off4 c 1#32 = ![1024 * (rowB c false 1).val, 0]) c)
  | true, 2 => exact ldx_of m ρ c _ _ _ ((by decide +kernel : ∀ c, k0_off3 c 2#32 = ![1024 * (rowB c true 2).val, 0]) c)
  | false, 2 => exact ldx_of m ρ c _ _ _ ((by decide +kernel : ∀ c, k0_off4 c 2#32 = ![1024 * (rowB c false 2).val, 0]) c)
  | true, 3 => exact ldx_of m ρ c _ _ _ ((by decide +kernel : ∀ c, k0_off5 c = ![1024 * (rowB c true 3).val, 0]) c)
  | false, 3 => exact ldx_of m ρ c _ _ _ ((by decide +kernel : ∀ c, k0_off5 c = ![1024 * (rowB c false 3).val, 0]) c)

/-! ## The sums -/

variable (A : (⟨2, ![4096, 4096]⟩ : Shape).Idx → EReal) (B : (⟨2, ![4096, 2048]⟩ : Shape).Idx → EReal)

/-- The `i`-th of block `b`'s thousand and twenty-four. -/
def inB (b : Dev nD) (i : Fin 1024) : Fin 4096 := ⟨b.val * 1024 + i.val, by have := b.isLt; have := i.isLt; simp only [nD] at *; omega⟩

/-- The `q`-th column of block `j` of direction `d`. -/
def colB (d : Bool) (j : Fin 4) (q : Fin 256) : Fin 2048 :=
  ⟨(if d then 0 else 1024) + 256 * j.val + q.val, by have := j.isLt; have := q.isLt; split <;> omega⟩

/-- Device `e`'s part of the product's entry at row `r` and column `q`. -/
def partSum (e : Dev nD) (r : Fin 4096) (q : Fin 2048) : EReal :=
  ∑ k : Fin 1024, A (ix2 r (inB e k)) * B (ix2 (inB e k) q)

/-- The product's entry. -/
def prodAt (r : Fin 4096) (q : Fin 2048) : EReal := ∑ k : Fin 4096, A (ix2 r k) * B (ix2 k q)

theorem prod_parts (r : Fin 4096) (q : Fin 2048) : prodAt A B r q = ∑ e : Dev nD, partSum A B e r q := by
  unfold prodAt partSum
  rw [← Fintype.sum_prod_type' (f := fun (e : Dev nD) (k : Fin 1024) => A (ix2 r (inB e k)) * B (ix2 (inB e k) q))]
  refine (Fintype.sum_equiv (finProdFinEquiv (m := 4) (n := 1024)) _ _ fun x => ?_).symm
  have : inB x.1 x.2 = finProdFinEquiv (m := 4) (n := 1024) x := Fin.ext (by
    show x.1.val * 1024 + x.2.val = x.2.val + 1024 * x.1.val; omega)
  rw [this]

theorem ldx_at (c : Dev nD) (d : Bool) (s : Fin 4) (r k : Fin 1024) :
    ldx m ρ c d s (ix2 r k) = m ((c.tc : Thread nD τ).loc main_arg0) (ix2 (inB (rowB c d s) r) k) := by
  rw [ldx_eq, xbv_eq]
  show m ((c.tc : Thread nD τ).loc main_arg0) _ = _
  refine congrArg _ (funext fun a => ?_)
  match a with
  | ⟨0, _⟩ => exact Fin.ext (show 1024 * (rowB c d s).val + 1 * r.val = (rowB c d s).val * 1024 + r.val by omega)
  | ⟨1, _⟩ => exact Fin.ext (show 0 + 1 * k.val = k.val by omega)

theorem ldw_at (c : Dev nD) (d : Bool) (j : Fin 4) (k : Fin 1024) (q : Fin 256) :
    ldw m ρ c d j (ix2 k q) = m ((c.tc : Thread nD τ).loc main_arg1) (ix2 k (colB d j q)) := by
  unfold ldw; rw [wbv_eq]
  show m ((c.tc : Thread nD τ).loc main_arg1) _ = _
  refine congrArg _ (funext fun a => ?_)
  match a with
  | ⟨0, _⟩ => exact Fin.ext (show 0 + 1 * k.val = k.val by omega)
  | ⟨1, _⟩ => exact Fin.ext (show (if d then 0 else 1024) + 256 * j.val + 1 * q.val = (if d then 0 else 1024) + 256 * j.val + q.val by omega)

theorem mm_at (x : Vec Ideal S1024x1024 .bf16) (w : Vec Ideal S1024x256 .bf16) (r : Fin 1024) (q : Fin 256) :
    mm x w (ix2 r q) = ∑ k : Fin 1024, (x (ix2 r k) : EReal) * w (ix2 k q) := by
  unfold mm
  pointwise

variable {A B}

/-- The devices hold the blocks of `A`, cut along its columns, and of `B`, cut along its rows. -/
def Holds (A : (⟨2, ![4096, 4096]⟩ : Shape).Idx → EReal) (B : (⟨2, ![4096, 2048]⟩ : Shape).Idx → EReal) : Prop :=
  (∀ (c : Dev nD) (r : Fin 4096) (k : Fin 1024), m ((c.tc : Thread nD τ).loc main_arg0) (ix2 r k) = A (ix2 r (inB c k)))
  ∧ ∀ (c : Dev nD) (k : Fin 1024) (q : Fin 2048), m ((c.tc : Thread nD τ).loc main_arg1) (ix2 k q) = B (ix2 (inB c k) q)

theorem pp_at (h : Holds m A B) (c : Dev nD) (d : Bool) (s j : Fin 4) (r : Fin 1024) (q : Fin 256) :
    pp m ρ c d s j (ix2 r q) = partSum A B c (inB (rowB c d s) r) (colB d j q) := by
  unfold pp partSum
  rw [mm_at]
  refine Finset.sum_congr rfl fun k _ => ?_
  rw [ldx_at, ldw_at, h.1, h.2]

theorem wide_thin (v : FVec Ideal S1024x256 .f32) : wide (F := Ideal) (thin v) = v := by
  unfold wide thin
  funext i
  pointwise

/-- Going back three times from any device passes by every device once. -/
theorem around (g : Dev nD → EReal) (c : Dev nD) (d : Bool) :
    g c + (g (bwd d c) + (g (bwd d (bwd d c)) + g (bwd d (bwd d (bwd d c))))) = ∑ e, g e := by
  have hu : (Finset.univ : Finset (Dev nD)) = {c, bwd d c, bwd d (bwd d c), bwd d (bwd d (bwd d c))}
      ∧ c ∉ ({bwd d c, bwd d (bwd d c), bwd d (bwd d (bwd d c))} : Finset (Dev nD))
      ∧ bwd d c ∉ ({bwd d (bwd d c), bwd d (bwd d (bwd d c))} : Finset (Dev nD))
      ∧ bwd d (bwd d c) ∉ ({bwd d (bwd d (bwd d c))} : Finset (Dev nD)) :=
    (by decide +kernel : ∀ (c : Dev nD) (d : Bool), (Finset.univ : Finset (Dev nD)) = {c, bwd d c, bwd d (bwd d c), bwd d (bwd d (bwd d c))}
      ∧ c ∉ ({bwd d c, bwd d (bwd d c), bwd d (bwd d (bwd d c))} : Finset (Dev nD))
      ∧ bwd d c ∉ ({bwd d (bwd d c), bwd d (bwd d (bwd d c))} : Finset (Dev nD))
      ∧ bwd d (bwd d c) ∉ ({bwd d (bwd d (bwd d c))} : Finset (Dev nD))) c d
  rw [hu.1, Finset.sum_insert hu.2.1, Finset.sum_insert hu.2.2.1, Finset.sum_insert hu.2.2.2, Finset.sum_singleton]

/-- A device's block of the product, read at an entry. -/
theorem Y_at (h : Holds m A B) (c : Dev nD) (d : Bool) (j : Fin 4) (r : Fin 1024) (q : Fin 256) :
    Y m ρ c d j (ix2 r q) = prodAt A B (inB c r) (colB d j q) := by
  unfold Y V2 V1 V0
  simp only [wide_thin]
  show (pp m ρ c d 3 j (ix2 r q) : EReal) + (pp m ρ (bwd d c) d 2 j (ix2 r q) + (pp m ρ (bwd d (bwd d c)) d 1 j (ix2 r q)
    + pp m ρ (bwd d (bwd d (bwd d c))) d 0 j (ix2 r q))) = _
  simp only [pp_at m ρ h]
  have e : rowB c d 3 = c ∧ rowB (bwd d c) d 2 = c ∧ rowB (bwd d (bwd d c)) d 1 = c ∧ rowB (bwd d (bwd d (bwd d c))) d 0 = c :=
    (by decide +kernel : ∀ (c : Dev nD) (d : Bool), rowB c d 3 = c ∧ rowB (bwd d c) d 2 = c ∧ rowB (bwd d (bwd d c)) d 1 = c
      ∧ rowB (bwd d (bwd d (bwd d c))) d 0 = c) c d
  rw [e.1, e.2.1, e.2.2.1, e.2.2.2, prod_parts]
  generalize hg : (fun e => partSum A B e (inB c r) (colB d j q)) = g
  have hg' : ∀ e, partSum A B e (inB c r) (colB d j q) = g e := fun e => congrFun hg e
  simp only [hg']
  exact around g c d

end Cert.KernelIdealProof

end
-- ==== Proof.Largest.lean ====
/- # The largest absolute value

   The kernel takes it block by block, from zero, and over the four devices; the reference takes it at once. Both are the
   least number no entry of the product exceeds in absolute value. -/
module

public import proofs.«01_k».proof.Proof.Product

@[expose] public section

set_option maxRecDepth 16384

noncomputable section

namespace Cert.KernelIdealProof

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The absolute value, as both programs take it. -/
def mag (x : EReal) : EReal := max x (-x)

theorem mag_nonneg (x : EReal) : 0 ≤ mag x := by
  rcases le_total 0 x with h | h
  · exact h.trans (le_max_left _ _)
  · exact (EReal.neg_nonneg.mpr h).trans (le_max_right _ _)

theorem bot_bits : (FloatOps.ofBits .f32 0xFF800000#32 : Ideal .f32) = (⊥ : EReal) := by
  show Ideal.ofBits .f32 0xFF800000#32 = ⊥
  simp [Ideal.ofBits, Ideal.ieee]

/-- A running maximum from minus infinity is at most `t` when every entry is. -/
theorem fold_le {ι : Type} (s : Finset ι) (f : ι → Ideal .f32) (b : Ideal .f32) (hb : b = (⊥ : EReal)) (t : EReal) :
    (s.fold (FloatOps.maximumf (F := Ideal) (φ := .f32)) b f : EReal) ≤ t ↔ ∀ i ∈ s, (f i : EReal) ≤ t := by
  subst hb
  exact (Finset.fold_max_le (β := EReal) t (b := ⊥) (f := f)).trans (and_iff_right bot_le)

theorem one_S1 (a b : S1.Idx) : a = b := funext fun k => by
  match k with
  | ⟨0, _⟩ => exact Subsingleton.elim (α := Fin 1) _ _

/-- A reshape keeps the entries. -/
theorem cast_all {s t : Shape} (x : s.Idx → EReal) (h : s.ShapeCasts t) (p : EReal → Prop) :
    (∀ i, p (shapeCast t x h i)) ↔ ∀ i, p (x i) :=
  (Shape.reshapeEquiv h).forall_congr_right (q := fun i => p (x i))

/-- A maximum over all axes but one of length one, from minus infinity. -/
theorem red_le {s : Shape} {axes : List (Fin s.rank)} (x : FVec Ideal s .f32) (h : s.Reduces axes S1)
    (hφ : FKind.Formats .f32) (hacc : 0xFF800000#32 = FKind.maximumf.neutral .f32 hφ) (j : S1.Idx) (t : EReal) :
    (multiReduction .maximumf axes S1 x 0xFF800000#32 h hφ hacc j : EReal) ≤ t ↔ ∀ i, (x i : EReal) ≤ t := by
  rw [multiReduction_maximumf_eq_fold x 0xFF800000#32 h hφ hacc j]
  refine (fold_le _ _ _ bot_bits t).trans ?_
  exact ⟨fun h i => h i (Finset.mem_filter.mpr ⟨Finset.mem_univ _, one_S1 _ _⟩), fun h i _ => h i⟩

/-- The only entry of a vector of one, reshaped. -/
theorem pick_one {t : Shape} (x : FVec Ideal S1 .f32) (h : S1.ShapeCasts t) (p) (hp) :
    ∃ j, extractAt p (shapeCast t x h) hp = x j := ⟨_, rfl⟩

/-- A block's largest absolute value. -/
theorem mxm_le (v : FVec Ideal S1024x256 .f32) (t : EReal) : (mxm v : EReal) ≤ t ↔ ∀ i, mag (v i) ≤ t := by
  have key := fun j => (red_le (shapeCast S1x1024x256 (absf v) shapeCasts_S1024x256_S1x1024x256 : FVec Ideal S1x1024x256 .f32)
    reduces_S1x1024x256_S1 (.inl rfl) rfl j t)
  have k2 := cast_all (absf v) shapeCasts_S1024x256_S1x1024x256 fun x => x ≤ t
  refine Iff.trans ?_ k2
  obtain ⟨j, hj⟩ := pick_one (multiReduction .maximumf [1, 2] S1
    (shapeCast S1x1024x256 (absf v) shapeCasts_S1024x256_S1x1024x256 : FVec Ideal S1x1024x256 .f32) 0xFF800000#32 reduces_S1x1024x256_S1 (.inl rfl) rfl)
    shapeCasts_S1_S1x1x1 ![0, 0, 0] inpos_S1x1x1_p0_0_0
  unfold mxm
  rw [hj]
  exact key j

/-- A device's largest absolute value. -/
theorem amx_le (c : Dev nD) (t : EReal) (ht : 0 ≤ t) :
    (amx m ρ c : EReal) ≤ t ↔ ∀ (d : Bool) (j : Fin 4) i, mag (Y m ρ c d j i) ≤ t := by
  have h2 : ∀ (j : Fin 4) (a : Ideal .f32), (amx2 m ρ c j a : EReal) ≤ t ↔ (a : EReal) ≤ t ∧ ∀ (d : Bool) i, mag (Y m ρ c d j i) ≤ t := by
    intro j a
    show max (max (a : EReal) (mxm (Y m ρ c true j))) (mxm (Y m ρ c false j)) ≤ t ↔ _
    rw [max_le_iff, max_le_iff, mxm_le, mxm_le, and_assoc]
    refine and_congr_right fun _ => ⟨fun h d => by cases d; exact h.2; exact h.1, fun h => ⟨h true, h false⟩⟩
  have h0 : (Scalar.ofBits .f32 0x00000000#32 : Ideal .f32) = (0 : EReal) := Ideal.ofBits_zero_f32
  unfold amx
  rw [h2, h2, h2, h2, h0]
  constructor
  · rintro ⟨⟨⟨⟨-, a⟩, b⟩, e⟩, f⟩ d j
    match j with
    | 0 => exact a d
    | 1 => exact b d
    | 2 => exact e d
    | 3 => exact f d
  · exact fun h => ⟨⟨⟨⟨ht, fun d => h d 0⟩, fun d => h d 1⟩, fun d => h d 2⟩, fun d => h d 3⟩

/-- The largest over the four devices, as the kernel takes it. -/
def top : EReal := extractAt ![0, 0, 0, 0] (shapeCast S1x1x1x1 (multiReduction .maximumf [1, 2, 3] S1
    (shapeCast S1x4x8x128 (amAll m ρ) shapeCasts_S4x8x128_S1x4x8x128 : FVec Ideal S1x4x8x128 .f32) 0xFF800000#32 reduces_S1x4x8x128_S1 (.inl rfl) rfl)
    shapeCasts_S1_S1x1x1x1) inpos_S1x1x1x1_p0_0_0_0

theorem scl_eq : scl m ρ = Ideal.div (top m ρ) (Ideal.ofBits .f32 0x42FE0000#32) := rfl

theorem top_le' (t : EReal) : top m ρ ≤ t ↔ ∀ c, (amx m ρ c : EReal) ≤ t := by
  refine (red_le (shapeCast S1x4x8x128 (amAll m ρ) shapeCasts_S4x8x128_S1x4x8x128 : FVec Ideal S1x4x8x128 .f32)
    reduces_S1x4x8x128_S1 (.inl rfl) rfl _ t).trans ((cast_all (amAll m ρ) shapeCasts_S4x8x128_S1x4x8x128 fun x => x ≤ t).trans ?_)
  exact ⟨fun h c => h (ix3 c (0 : Fin 8) (0 : Fin 128)), fun h i => h _⟩

variable {A : (⟨2, ![4096, 4096]⟩ : Shape).Idx → EReal} {B : (⟨2, ![4096, 2048]⟩ : Shape).Idx → EReal}

/-- Every row is a row of one device's block. -/
theorem row_of (R : Fin 4096) : ∃ (c : Dev nD) (r : Fin 1024), inB c r = R :=
  ⟨⟨R.val / 1024, by have := R.isLt; simp only [nD]; omega⟩, ⟨R.val % 1024, by omega⟩, Fin.ext (show R.val / 1024 * 1024 + R.val % 1024 = R.val by omega)⟩

/-- Every column is a column of one block of one direction. -/
theorem col_of (Q : Fin 2048) : ∃ (d : Bool) (j : Fin 4) (q : Fin 256), colB d j q = Q := by
  have hQ := Q.isLt
  rcases Nat.lt_or_ge Q.val 1024 with h | h
  · exact ⟨true, ⟨Q.val / 256, by omega⟩, ⟨Q.val % 256, by omega⟩, Fin.ext (show 0 + 256 * (Q.val / 256) + Q.val % 256 = Q.val by omega)⟩
  · exact ⟨false, ⟨(Q.val - 1024) / 256, by omega⟩, ⟨Q.val % 256, by omega⟩,
      Fin.ext (show 1024 + 256 * ((Q.val - 1024) / 256) + Q.val % 256 = Q.val by omega)⟩

/-- It is the least number no entry of the product exceeds in absolute value. -/
theorem top_le (h : Holds m A B) (t : EReal) : top m ρ ≤ t ↔ ∀ R Q, mag (prodAt A B R Q) ≤ t := by
  rw [top_le']
  have hpos : (∀ c, (amx m ρ c : EReal) ≤ t) → 0 ≤ t := fun hc => by
    refine le_trans ?_ (hc 0)
    have : (amx2 m ρ 0 3 (amx2 m ρ 0 2 (amx2 m ρ 0 1 (amx2 m ρ 0 0 (Scalar.ofBits .f32 0x00000000#32)))) : EReal) = amx m ρ 0 := rfl
    rw [← this]
    have h2 : ∀ (j : Fin 4) (a : Ideal .f32), (a : EReal) ≤ amx2 m ρ 0 j a := fun j a =>
      le_trans (le_max_left _ _) (le_max_left (α := EReal) _ _)
    have h0 : (Scalar.ofBits .f32 0x00000000#32 : Ideal .f32) = (0 : EReal) := Ideal.ofBits_zero_f32
    exact (le_of_eq h0.symm).trans ((h2 0 _).trans ((h2 1 _).trans ((h2 2 _).trans (h2 3 _))))
  constructor
  · intro hc R Q
    obtain ⟨c, r, rfl⟩ := row_of R
    obtain ⟨d, j, q, rfl⟩ := col_of Q
    rw [← Y_at m ρ h]
    exact (amx_le m ρ c t (hpos hc)).mp (hc c) d j _
  · intro hp c
    refine (amx_le m ρ c t ((mag_nonneg _).trans (hp 0 0))).mpr fun d j i => ?_
    rw [eq_ix2 i]
    exact (congrArg mag (Y_at m ρ h c d j (i 0) (i 1))).trans_le (hp _ _)

end Cert.KernelIdealProof

end
-- ==== Proof.Value.lean ====
/- # The kernel computes the reference

   Over the extended reals each device's result is its block of the reference's: the entries of the product agree, so do
   their largest absolute values, and both programs quantise an entry the same way. -/
module

public import proofs.«01_k».proof.Defs
public import proofs.«01_k».proof.Proof.Gen.ReferenceIdeal.Run
public import proofs.«01_k».proof.Proof.Largest

@[expose] public section

set_option maxRecDepth 16384

noncomputable section

/-! ## The reference's result -/

namespace Cert.ReferenceIdealValue

open Cert.ReferenceIdeal Cert.ReferenceIdeal.Gen
open Idealize.ShloMosaic Idealize.ShloMosaic.TcCoe Idealize.SL.Sem

variable (A : Vec Ideal S4096x4096 .bf16) (B : Vec Ideal S4096x2048 .bf16)

/-- The whole product. -/
def whole : FVec Ideal S4096x2048 .f32 :=
  Host.dotGeneral dot_S4096x4096_S4096x2048_S4096x2048_1_0_0_1_n_n none (extf .f32 A bitsLt_bf16_f32) (extf .f32 B bitsLt_bf16_f32)

/-- Its largest absolute value, and the scale. -/
def large : FVec Ideal S_ .f32 :=
  Host.reduce FloatOps.maximumf (Host.absf (whole A B)) (constant S_ .f32 0xFF800000#32) reducesTo_S4096x2048_S_d0_1 h_S_
def scale : FVec Ideal S4096x2048 .f32 :=
  broadcastInDim S4096x2048 ![] bcast_S_S4096x2048 (Host.divf (large A B) (constant S_ .f32 0x42FE0000#32))

/-- The product quantised and scaled back. -/
def quant : Vec Ideal S4096x2048 .bf16 :=
  truncf .bf16 (mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (whole A B) (scale A B))))) (scale A B)) bitsLt_bf16_f32

theorem whole_at (R : Fin 4096) (Q : Fin 2048) : whole A B (ix2 R Q) = Cert.KernelIdealProof.prodAt A B R Q := by
  unfold whole Cert.KernelIdealProof.prodAt
  pointwise

theorem none_S_ (a b : S_.Idx) : a = b := funext fun k => k.elim0

theorem large_le (j : S_.Idx) (t : EReal) :
    (large A B j : EReal) ≤ t ↔ ∀ R Q, Cert.KernelIdealProof.mag (Cert.KernelIdealProof.prodAt A B R Q) ≤ t := by
  unfold large
  rw [Host.reduce_eq_fold]
  refine (Cert.KernelIdealProof.fold_le _ _ _ Cert.KernelIdealProof.bot_bits t).trans ?_
  constructor
  · intro h R Q
    rw [← whole_at]
    exact h (ix2 R Q) (Finset.mem_filter.mpr ⟨Finset.mem_univ _, none_S_ _ _⟩)
  · intro h i _
    rw [eq_ix2 i]
    exact (congrArg Cert.KernelIdealProof.mag (whole_at A B (i 0) (i 1))).trans_le (h _ _)

/-- How one entry `y` is quantised at the largest absolute value `M`. -/
def step (M y : EReal) : EReal :=
  let s : Ideal .f32 := Ideal.div M (Ideal.ofBits .f32 0x42FE0000#32)
  FloatOps.mulf (F := Ideal) (φ := .f32) (FloatOps.minimumf (F := Ideal) (φ := .f32) (Ideal.ofBits .f32 0x42FE0000#32)
    (FloatOps.maximumf (F := Ideal) (φ := .f32) (Ideal.ofBits .f32 0xC2FE0000#32) (Ideal.liftRound Ideal.roundHalfEven (Ideal.div y s)))) s

theorem quant_at (i : S4096x2048.Idx) : quant A B i = step (large A B ix0) (whole A B i) := by
  have hs : ∀ i, scale A B i = Ideal.div (large A B ix0) (Ideal.ofBits .f32 0x42FE0000#32) := fun i =>
    congrArg (fun k => Ideal.div (large A B k) (Ideal.ofBits .f32 0x42FE0000#32)) (none_S_ _ ix0)
  have h1 : ∀ (w : BitVec 32) i, broadcastInDim S4096x2048 ![] bcast_S_S4096x2048 (id (constant (F := Ideal) S_ .f32 w)) i = Ideal.ofBits .f32 w := fun w i =>
    congrArg (constant (F := Ideal) S_ .f32 w) (none_S_ ix0 ix0)
  show FloatOps.mulf (F := Ideal) (φ := .f32) (FloatOps.minimumf (F := Ideal) (φ := .f32) (broadcastInDim S4096x2048 ![] bcast_S_S4096x2048 (id (constant (F := Ideal) S_ .f32 0x42FE0000#32)) i)
    (FloatOps.maximumf (F := Ideal) (φ := .f32) (broadcastInDim S4096x2048 ![] bcast_S_S4096x2048 (id (constant (F := Ideal) S_ .f32 0xC2FE0000#32)) i)
      (Ideal.liftRound Ideal.roundHalfEven (Ideal.div (whole A B i) (scale A B i))))) (scale A B i) = _
  rw [hs, h1, h1]; rfl

end Cert.ReferenceIdealValue

namespace Cert.KernelIdealProof

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)
variable {A : (⟨2, ![4096, 4096]⟩ : Shape).Idx → EReal} {B : (⟨2, ![4096, 2048]⟩ : Shape).Idx → EReal}

theorem qz_at (v : FVec Ideal S1024x256 .f32) (i : S1024x256.Idx) :
    qz (scl m ρ) v i = Cert.ReferenceIdealValue.step (top m ρ) (v i) := rfl

theorem top_eq (h : Holds m A B) (j) : top m ρ = Cert.ReferenceIdealValue.large A B j :=
  eq_of_forall_ge_iff fun t => (top_le m ρ h t).trans (Cert.ReferenceIdealValue.large_le A B j t).symm

/-- A device's result is its rows of the reference's. -/
theorem out_at (h : Holds m A B) (c : Dev nD) (r : Fin 1024) (Q : Fin 2048) :
    outAt m ρ c (ix2 r Q) = Cert.ReferenceIdealValue.quant A B (ix2 (inB c r) Q) := by
  have hQ : colB (blkD (ix2 r Q)) (blkJ (ix2 r Q)) ⟨Q.val % 256, Nat.mod_lt _ (by decide)⟩ = Q := Fin.ext (by
    show (if decide (Q.val < 1024) = true then 0 else 1024) + 256 * (Q.val / 256 % 4) + Q.val % 256 = Q.val
    have := Q.isLt
    by_cases hq : Q.val < 1024
    · rw [if_pos (decide_eq_true hq)]; omega
    · rw [if_neg (by simpa using hq)]; omega)
  have hx : blkX (ix2 r Q) = ix2 r ⟨Q.val % 256, Nat.mod_lt _ (by decide)⟩ := funext fun a => by
    match a with
    | ⟨0, _⟩ => rfl
    | ⟨1, _⟩ => rfl
  rw [Cert.ReferenceIdealValue.quant_at, Cert.ReferenceIdealValue.whole_at, ← top_eq m ρ h]
  refine (qz_at m ρ _ _).trans (congrArg _ ?_)
  rw [hx, Y_at m ρ h, hQ]

/-- The launch's result on device `c` is what its output block holds. -/
theorem res_eq (c : Dev nD) : finalA m ρ c (2 : Fin 3) = outAt m ρ c := by
  have hz : (fun a => (win0_2.index (0 : Fin 1)) a * main_v1.ty.shape.size a) = fun _ => 0 :=
    funext fun a => by fin_cases a <;> decide
  have ho := finalA_out (F := Ideal) m ρ c
  exact (Memref.read_access_unit_zero (Elt Ideal) main_v1 hz (fun a => by fin_cases a <;> decide) _).symm.trans ho

theorem algebraic : Cert.algebraic_KernelIdeal_ReferenceIdeal := by
  intro m ρ m' ρ' _ hag
  have hH : Holds m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)) := by
    constructor
    · intro c r k
      rw [(hag c).1]
      refine congrArg (m' _) (funext fun a => ?_)
      match a with
      | ⟨0, _⟩ => rfl
      | ⟨1, _⟩ => rfl
    · intro c k q
      rw [(hag c).2]
      refine congrArg (m' _) (funext fun a => ?_)
      match a with
      | ⟨0, _⟩ => rfl
      | ⟨1, _⟩ => rfl
  refine ⟨Cert.ReferenceIdealValue.quant (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run defs _ _).mono (fun r h c => ⟨?_, (h.1 c (0 : Fin 3)).trans (finalA_x m ρ c), (h.1 c (1 : Fin 3)).trans (finalA_w m ρ c)⟩)
      (run_main (F := Ideal) m ρ)
    refine (h.1 c (2 : Fin 3)).trans ((res_eq m ρ c).trans (funext fun i => ?_))
    rw [eq_ix2 (n0 := 1024) (n1 := 2048) i]
    refine (out_at m ρ hH c (i (0 : Fin 2)) (i (1 : Fin 2))).trans ?_
    refine congrArg (Cert.ReferenceIdealValue.quant _ _) (funext fun a => ?_)
    match a with
    | ⟨0, _⟩ => rfl
    | ⟨1, _⟩ => rfl
  · exact (θ_run Cert.ReferenceIdeal.defs _ _).mono (fun _ h => h 0) (Cert.ReferenceIdeal.Value.run (F := Ideal) m' ρ')

end Cert.KernelIdealProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.KernelIdealProof.frame_kernel, Cert.KernelIdealProof.frame_kernelIdeal, Cert.KernelIdealProof.frame_reference,
    trivial, Cert.KernelIdealProof.algebraic⟩

end Cert.Proof

end
